-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebook_finite [hPre_codebook_finite : Cert.Pre_codebook_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codebook_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebook_finite [hPre_codebook_finite : Cert.Pre_codebook_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebook_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_codebook_finite [hKernelIdeal : Cert.KernelIdeal.Facts] [hPre_codebook_finite : Cert.Pre_codebook_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebook_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_codebook_finite [hReferenceIdeal : Cert.ReferenceIdeal.Facts] [hPre_codebook_finite : Cert.Pre_codebook_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebook_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_codebook_finite [hKernelIdeal : Cert.KernelIdeal.Facts] [hReferenceIdeal : Cert.ReferenceIdeal.Facts] [hPre_codebook_finite : Cert.Pre_codebook_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebook_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_codebook_finite : Cert.Pre_codebook_finite.Facts),
    quiescent_Kernel (hKernel := hKernel)
    ∧ quiescent_KernelIdeal (hKernelIdeal := hKernelIdeal)
    ∧ quiescent_KernelIdeal_pre_codebook_finite (hKernelIdeal := hKernelIdeal) (hPre_codebook_finite := hPre_codebook_finite)
    ∧ quiescent_ReferenceIdeal (hReferenceIdeal := hReferenceIdeal)
    ∧ quiescent_ReferenceIdeal_pre_codebook_finite (hReferenceIdeal := hReferenceIdeal) (hPre_codebook_finite := hPre_codebook_finite)
    ∧ preserves_Kernel_KernelIdeal
    ∧ algebraic_KernelIdeal_ReferenceIdeal_pre_codebook_finite (hKernelIdeal := hKernelIdeal) (hReferenceIdeal := hReferenceIdeal) (hPre_codebook_finite := hPre_codebook_finite)
-- ==== Pre_codebook_finite.lean ====
abbrev S8x64x32x32 : Shape := ⟨4, ![8, 64, 32, 32]⟩
abbrev S64x64 : Shape := ⟨2, ![64, 64]⟩
abbrev S64 : Shape := ⟨1, ![64]⟩
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8x64x32x32 .f32) (main_arg1 : FVec F S64x64 .f32) (main_arg2 : FVec F S64 .f32) (main_arg3 : FVec F S8192x64 .f32) : IVec S_ 1 :=
  let main_v0 : FVec F S8192x64 .f32 := Host.absf main_arg3
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8x64x32x32 : Shape := ⟨4, ![8, 64, 32, 32]⟩
abbrev S64x64 : Shape := ⟨2, ![64, 64]⟩
abbrev S64 : Shape := ⟨1, ![64]⟩
abbrev S8192x64 : Shape := ⟨2, ![8192, 64]⟩
abbrev S8x64x1024 : Shape := ⟨3, ![8, 64, 1024]⟩
abbrev S64x1 : Shape := ⟨2, ![64, 1]⟩
abbrev S8x1x1024 : Shape := ⟨3, ![8, 1, 1024]⟩
abbrev S1x64x1024 : Shape := ⟨3, ![1, 64, 1024]⟩
abbrev S1x1x1024 : Shape := ⟨3, ![1, 1, 1024]⟩
abbrev S64x1024 : Shape := ⟨2, ![64, 1024]⟩
abbrev S1024 : Shape := ⟨1, ![1024]⟩
abbrev S1x1024 : Shape := ⟨2, ![1, 1024]⟩
abbrev S8x1024 : Shape := ⟨2, ![8, 1024]⟩
abbrev S1024x64 : Shape := ⟨2, ![1024, 64]⟩
abbrev S1024x1024 : Shape := ⟨2, ![1024, 1024]⟩
abbrev S1024x1 : Shape := ⟨2, ![1024, 1]⟩
abbrev S8x1 : Shape := ⟨2, ![8, 1]⟩
abbrev S4x1024 : Shape := ⟨2, ![4, 1024]⟩
abbrev S2x1024 : Shape := ⟨2, ![2, 1024]⟩
abbrev S_ : Shape := ⟨0, ![]⟩
abbrev S8192x128 : Shape := ⟨2, ![8192, 128]⟩
abbrev S8192 : Shape := ⟨1, ![8192]⟩
abbrev S64x128 : Shape := ⟨2, ![64, 128]⟩
abbrev S2x128 : Shape := ⟨2, ![2, 128]⟩
abbrev S256x128 : Shape := ⟨2, ![256, 128]⟩
abbrev S512x128 : Shape := ⟨2, ![512, 128]⟩
abbrev S128x128 : Shape := ⟨2, ![128, 128]⟩
abbrev S1x128 : Shape := ⟨2, ![1, 128]⟩
abbrev S128 : Shape := ⟨1, ![128]⟩
abbrev S8x32x32x128 : Shape := ⟨4, ![8, 32, 32, 128]⟩
abbrev S8x32x32x64 : Shape := ⟨4, ![8, 32, 32, 64]⟩

abbrev nBuf : Table → Nat
  | .hbm => 16
  | .local .tc .vmem => 7
  | .shared => 1
  | .local .scVector .vmem => 2
  | _ => 0

abbrev bufTy : (tb : Table) → Fin (nBuf tb) → BufTy
  | .hbm, ⟨0, _⟩ => ⟨S8x64x32x32, .f32⟩
  | .hbm, ⟨1, _⟩ => ⟨S64x64, .f32⟩
  | .hbm, ⟨2, _⟩ => ⟨S64, .f32⟩
  | .hbm, ⟨3, _⟩ => ⟨S8192x64, .f32⟩
  | .hbm, ⟨4, _⟩ => ⟨S8x64x1024, .f32⟩
  | .hbm, ⟨5, _⟩ => ⟨S64x1, .f32⟩
  | .hbm, ⟨6, _⟩ => ⟨S8x1x1024, .i32⟩
  | .hbm, ⟨7, _⟩ => ⟨S_, .i32⟩
  | .hbm, ⟨8, _⟩ => ⟨S_, .f32⟩
  | .hbm, ⟨9, _⟩ => ⟨S8192x128, .f32⟩
  | .hbm, ⟨10, _⟩ => ⟨S8192, .i32⟩
  | .hbm, ⟨11, _⟩ => ⟨S64x128, .i32⟩
  | .hbm, ⟨12, _⟩ => ⟨S8192x128, .f32⟩
  | .hbm, ⟨13, _⟩ => ⟨S8x32x32x128, .f32⟩
  | .hbm, ⟨14, _⟩ => ⟨S8x32x32x64, .f32⟩
  | .hbm, ⟨15, _⟩ => ⟨S8x64x32x32, .f32⟩
  | .local .tc .vmem, ⟨0, _⟩ => ⟨S1x64x1024, .f32⟩
  | .local .tc .vmem, ⟨1, _⟩ => ⟨S1x64x1024, .f32⟩
  | .local .tc .vmem, ⟨2, _⟩ => ⟨S64x64, .f32⟩
  | .local .tc .vmem, ⟨3, _⟩ => ⟨S64x1, .f32⟩
  | .local .tc .vmem, ⟨4, _⟩ => ⟨S8192x64, .f32⟩
  | .local .tc .vmem, ⟨5, _⟩ => ⟨S1x1x1024, .i32⟩
  | .local .tc .vmem, ⟨6, _⟩ => ⟨S1x1x1024, .i32⟩
  | .shared, ⟨0, _⟩ => ⟨S8192x128, .f32⟩
  | .local .scVector .vmem, ⟨0, _⟩ => ⟨S2x128, .i32⟩
  | .local .scVector .vmem, ⟨1, _⟩ => ⟨S256x128, .f32⟩
  | _, _ => ⟨S8x64x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v3_scv : Ref sig .scVector := ⟨.hbm, 9, rfl⟩
abbrev main_v5_scv : Ref sig .scVector := ⟨.hbm, 11, rfl⟩
abbrev main_v6_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_scratch0 : Ref sig .scVector := ⟨.shared, 0, rfl⟩
abbrev cc1_scratch1 : Ref sig .scVector := ⟨.vmem, 0, rfl⟩
abbrev cc1_scratch2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c512_i32_0 : BitVec 32 := 512#32
  let v3 : BitVec 32 := Scalar.muli arg1 c512_i32_0
  let c0_i32 : BitVec 32 := 0#32
  ![v3.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v6 : BitVec 32 := Scalar.muli v1 c2_i32_2
  let c0_i32_27_r0 : BitVec 32 := 0#32
  ![v6.toNat, 0]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v25 : BitVec 32 := Scalar.muli v1 c256_i32
  let c0_i32_27_r1 : BitVec 32 := 0#32
  ![v25.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x64x32x32 : Shape := ⟨4, ![8, 64, 32, 32]⟩
abbrev S64x64 : Shape := ⟨2, ![64, 64]⟩
abbrev S64 : Shape := ⟨1, ![64]⟩
abbrev S8192x64 : Shape := ⟨2, ![8192, 64]⟩
abbrev S8x32x32x64 : Shape := ⟨4, ![8, 32, 32, 64]⟩
abbrev S1x64x1x1 : Shape := ⟨4, ![1, 64, 1, 1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x64x32x32, .f32⟩
  | .hbm, ⟨1, _⟩ => ⟨S64x64, .f32⟩
  | .hbm, ⟨2, _⟩ => ⟨S64, .f32⟩
  | .hbm, ⟨3, _⟩ => ⟨S8192x64, .f32⟩
  | .hbm, ⟨4, _⟩ => ⟨S8x32x32x64, .f32⟩
  | .hbm, ⟨5, _⟩ => ⟨S8x64x32x32, .f32⟩
  | .hbm, ⟨6, _⟩ => ⟨S1x64x1x1, .f32⟩
  | .hbm, ⟨7, _⟩ => ⟨S8x64x32x32, .f32⟩
  | .hbm, ⟨8, _⟩ => ⟨S8x64x32x32, .f32⟩
  | .hbm, ⟨9, _⟩ => ⟨S8x32x32x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S64x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .i32⟩
  | .hbm, ⟨39, _⟩ => ⟨S_, .f32⟩
  | .hbm, ⟨40, _⟩ => ⟨S_, .i32⟩
  | .hbm, ⟨41, _⟩ => ⟨S8192, .f32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192x1, .i32⟩
  | .hbm, ⟨51, _⟩ => ⟨S1, .i32⟩
  | .hbm, ⟨52, _⟩ => ⟨S_, .i32⟩
  | .hbm, ⟨53, _⟩ => ⟨S8192x1, .i32⟩
  | .hbm, ⟨54, _⟩ => ⟨S8192x1, .i1⟩
  | .hbm, ⟨55, _⟩ => ⟨S1x1, .i32⟩
  | .hbm, ⟨56, _⟩ => ⟨S8192x1, .i32⟩
  | .hbm, ⟨57, _⟩ => ⟨S8192x1, .i1⟩
  | .hbm, ⟨58, _⟩ => ⟨S8192x1, .i1⟩
  | .hbm, ⟨59, _⟩ => ⟨S_, .i1⟩
  | .hbm, ⟨60, _⟩ => ⟨S8192, .i1⟩
  | .hbm, ⟨61, _⟩ => ⟨S8192x64, .f32⟩
  | .hbm, ⟨62, _⟩ => ⟨S8192x64, .i1⟩
  | .hbm, ⟨63, _⟩ => ⟨S_, .f32⟩
  | .hbm, ⟨64, _⟩ => ⟨S8192x64, .f32⟩
  | .hbm, ⟨65, _⟩ => ⟨S8192x64, .f32⟩
  | .hbm, ⟨66, _⟩ => ⟨S8x32x32x64, .f32⟩
  | .hbm, ⟨67, _⟩ => ⟨S8x64x32x32, .f32⟩
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_cst : Ref sig .tc := ⟨.hbm, 39, rfl⟩
abbrev main_call1_c : Ref sig .tc := ⟨.hbm, 40, rfl⟩
abbrev main_call1_v1_0 : Ref sig .tc := ⟨.hbm, 41, rfl⟩
abbrev main_v26 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩

abbrev nD : Nat := 1
abbrev τ : Topo := Topo.v7x

variable {F : FTy → Type} [FloatOps F]
-- ==== Proof.GatherBatch.lean ====
/-
  Two indirect gathers outstanding on one DMA semaphore.

  The kernel starts both of a tile's gathers before it waits for either, on the same semaphore. Their rows are taken
  here as ONE counted batch of row transfers (`Transfers.Batch`): issuing a gather hands in the issue rights of its
  rows, a wait that is not the last learns nothing, the last wait has every row of both, and the rows of each gather
  are put together again into the destination written with the gather's payload.
-/
module

public import Idealize.ShloMosaic.Lib.Batch
public import Idealize.ShloMosaic.Lib.SparseCore.Stream
public import Idealize.ShloMosaic.Lib.SparseCore.Ops

@[expose] public section

noncomputable section

namespace Cert.Proof.GatherBatch

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-! ## Families counted in two runs -/

/-- The transfers still to be issued from `k` on are the next `o` of them and those from `k + o` on. -/
theorem pending_run {n : ℕ} (Φ : Fin n → sProp 𝕄) : ∀ (o k : ℕ) (h : k + o ≤ n),
    bigSep (pending k) Φ ⊢ iprop((bigSep Finset.univ fun j : Fin o => Φ ⟨k + j.val, by omega⟩) ∗ bigSep (pending (k + o)) Φ)
  | 0, k, h => by
    rw [Finset.univ_eq_empty, BI.bigSep_empty]
    iintro H
    isplitr; · iempintro
    iexact H
  | o + 1, k, h => by
    have e : (fun j : Fin o => Φ ⟨k + 1 + j.val, by omega⟩) = fun j : Fin o => Φ ⟨k + j.succ.val, by rw [Fin.val_succ]; omega⟩ :=
      funext fun j => congrArg Φ (Fin.ext (by simp only [Fin.val_succ]; omega))
    have e₀ : Φ ⟨k, by omega⟩ = Φ ⟨k + ((0 : Fin (o + 1)) : ℕ), by simp only [Fin.val_zero]; omega⟩ := congrArg Φ (Fin.ext rfl)
    have e' : pending (n := n) (k + 1 + o) = pending (k + (o + 1)) := congrArg pending (by omega)
    rw [bigSep_pending_step Φ k (by omega), bigSep_univ_succ (fun j : Fin (o + 1) => Φ ⟨k + j.val, by omega⟩)]
    iintro ⟨H0, H⟩
    ihave H' := (pending_run Φ o (k + 1) (by omega)) $$ H
    rw [e, e']
    icases H' with ⟨H1, H2⟩
    isplitr [H2]; swap; · iexact H2
    isplitl [H0]; · iapply (Entails.of_eq e₀); iexact H0
    iexact H1

/-- A family over `a + b` indices is its first `a` and its last `b`. -/
theorem family_two_runs {a b : ℕ} (Φ : Fin (a + b) → sProp 𝕄) :
    bigSep Finset.univ Φ ⊢ iprop((bigSep Finset.univ fun j : Fin a => Φ (j.castAdd b)) ∗ bigSep Finset.univ fun j : Fin b => Φ (j.natAdd a)) := by
  have e : pending (n := a + b) (0 + a) = pending a := congrArg pending (Nat.zero_add a)
  have e' : (fun j : Fin a => Φ ⟨0 + j.val, by omega⟩) = fun j : Fin a => Φ (j.castAdd b) :=
    funext fun j => congrArg Φ (Fin.ext (Nat.zero_add j.val))
  have e₂ : (bigSep Finset.univ fun j : Fin b => Φ ⟨a + j.val, by omega⟩) = bigSep Finset.univ fun j : Fin b => Φ (j.natAdd a) := rfl
  rw [bigSep_pending_zero]
  iintro H
  ihave H' := (pending_run Φ a 0 (by omega)) $$ H
  rw [e, e']
  icases H' with ⟨H1, H⟩
  ihave H' := (pending_run Φ b a le_rfl) $$ H
  icases H' with ⟨H2, -⟩
  isplitl [H1]; · iexact H1
  iapply (Entails.of_eq e₂); iexact H2

/-! ## One gather's rows -/

variable (c : Thread nD τ) {sp : Space} {s₀ s si : Shape} {e : EltTy} {a : Nat}

/-- The contents the gather brings into row `j` of its destination: the source's row the list's entry `j` names. -/
def rowBrought (hg : s₀.Gathers a s) (g : s₀.Idx → Elt F e) (r : Fin (s.size hg.axis') → Fin (s₀.size hg.axis)) (j : Fin (s.size hg.axis')) :
    (s.rowShape hg.axis').Idx → Elt F e := fun i => g (hg.rowIdx (r j) i)

/-- What row `j` of a gather hands back once it has landed: row `j` of the destination, written with the row of the
    source its list entry names; the entry; and a piece of the source's share. -/
def rowLanded (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop((dst.view.loc c ↦[(dst.view.slice (s.rowRect hg.axis' j)).set]{fullShare}
          ((dst.view.slice (s.rowRect hg.axis' j)).write (Elt F) fd
            (rowBrought hg (src.view.read (Elt F) fs) (rows (offs.view.read (Elt F) fo) hn hin) j) Finset.univ))
      ∗ (offs.view.loc c ↦[{offs.view.emb (si.rowMajor.symm (j.cast hn.symm))}]{qo} fo)
      ∗ (src.view.loc c ↦[src.view.set]{pieceOf q _ ho j} fs))

instance rowLanded_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowLanded c src dst hg offs hn ho q qo fs fd fo hin j) := by
  unfold rowLanded; infer_instance

/-- A gather's landed rows, all of them, are the destination written with the gather's payload, the list and the
    source back. -/
theorem rows_landed (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowLanded (Ix := Ix) (Name := Name) (U := U) (Lvl := Lvl) c src dst hg offs hn ho q qo fs fd fo hin)
      ⊢ iprop((dst.view.loc c ↦[dst.view.set]{fullShare}
                (dst.view.write (Elt F) fd (gatherPayload hg (src.view.read (Elt F) fs) (rows (offs.view.read (Elt F) fo) hn hin)) Finset.univ))
          ∗ (offs.view.loc c ↦[offs.view.set]{qo} fo) ∗ (src.view.loc c ↦[src.view.set]{q} fs)) := by
  unfold rowLanded
  iintro H
  ihave H1 := bigSep_sep_out _ _ _ $$ H
  icases H1 with ⟨Hrows, H2⟩
  ihave H3 := bigSep_sep_out _ _ _ $$ H2
  icases H3 with ⟨Hoffs, Hsrc⟩
  isplitl [Hrows]
  · iapply (pointsTo_rows_write c dst.view hg.axis' fd
      (rowBrought hg (src.view.read (Elt F) fs) (rows (offs.view.read (Elt F) fo) hn hin))
      (gatherPayload hg (src.view.read (Elt F) fs) (rows (offs.view.read (Elt F) fo) hn hin)) fun k i => by
      unfold gatherPayload rowBrought; rw [Shape.Gathers.idx_rowRect_emb]) $$ Hrows
  isplitl [Hoffs]
  · iapply (Entails.of_eq (pointsTo_entries c offs.view (fun j => si.rowMajor.symm (j.cast hn.symm))
      (si.rowMajor.symm.bijective.comp (finCongr hn.symm).bijective) qo fo).symm) $$ Hoffs
  iapply (Entails.of_eq (pointsTo_piecesOf (src.view.set) fs ho q).symm) $$ Hsrc

variable [Preorder Lvl] {Λ : Labels} {dfs : Defs nD τ sig (Elt F) Λ}
variable (EC : UEmb Counters (MT nD τ sig Ix (Elt F) Name U Lvl)) (𝒱 : Variants) (bd : Option 𝒱.V)
variable {α : Type} {Q : α → sProp (MT nD τ sig Ix (Elt F) Name U Lvl)}

/-- An indirect gather issued INTO a batch of row transfers: from shares of the source and of the offset list (its
    words all in range), the destination outright and the batch with `k₀` transfers issued, the gather's rows become
    the batch's next transfers. -/
theorem wp_gatherIntoBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} (k₀ u : ℕ) (hk : k₀ + s.size hg.axis' ≤ n) (hu : u ≤ k₀ * N)
    (hD : ∀ j, rowLanded c src dst hg offs hn ho q qo fs fd fo hin j ⊢ D ⟨k₀ + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k₀ u)
      ⊢ iprop((Batch EC c (.dma sem) ι N D (k₀ + s.size hg.axis') u -∗ wp frame (wpE dfs 𝒱 c bd) Set.univ (k ⟨⟩) Q)
          -∗ wp frame (wpE dfs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl (g := fun _ => N) fun j _ => hN j, Finset.sum_const, Finset.card_univ, Fintype.card_fin, smul_eq_mul]
  unfold Batch
  iintro ⟨Hs, Hd, Ho, ⟨%γ, %γ₀, %κ, #Hinv, Hpend, Hown, Hcred⟩⟩ Hk
  ihave Hp := (pending_run (fun t => count EC (γ t) 0) (s.size hg.axis') k₀ hk) $$ Hpend
  icases Hp with ⟨Hnow, Hlater⟩
  ihave Hd' := (Entails.of_eq (pointsTo_rows c dst.view hg.axis' fullShare fd)) $$ Hd
  ihave Ho' := (Entails.of_eq (pointsTo_entries c offs.view S.entry (si.rowMajor.symm.bijective.comp (finCongr hn.symm).bijective) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hnow]
  · have hrow : ∀ j : Fin (s.size hg.axis'), iprop(inv κ (batchBody EC (c, SemLoc.dma sem) N D γ γ₀)
          ∗ ((dst.view.loc c ↦[(dst.view.slice (s.rowRect hg.axis' j)).set]{fullShare} fd)
            ∗ S.heldEntry qo fo j ∗ (src.view.loc c ↦[src.view.set]{pieceOf q _ ho j} fs) ∗ count EC (γ ⟨k₀ + j.val, by omega⟩) 0))
        ⊢ iprop(S.heldEntry qo fo j ∗ (S.heldEntry qo fo j -∗ rowRes c (rd j))) := fun j => by
      iintro ⟨#Hinv, Hr, He, Hsq, Hγ⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (rowBrought hg (src.view.read (Elt F) fs) r j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hpay : (rd j).dst.view.amount (SemLoc.dma sem) = N := hN j
        rw [hpay]
        iapply (batch_creditUpdate EC (D := D) (γ₀ := γ₀) ⟨k₀ + j.val, by omega⟩ (by
          refine Entails.trans ?_ (hD j)
          unfold rowLanded
          iintro ⟨⟨Hr, He⟩, Hs⟩
          isplitl [Hr]; · iexact Hr
          isplitl [He]; · iexact He
          iexact Hs))
        isplitr; · iexact Hinv
        iexact Hγ
    unfold Stream.res
    iapply (bigSep_mono_pers Finset.univ _ _ _ fun j _ => hrow j)
    isplitr; · iexact Hinv
    iapply (bigSep_sep_in _ _ _)
    isplitl [Hd']; · iexact Hd'
    iapply (bigSep_sep_in _ _ _)
    isplitl [Ho']; · iexact Ho'
    iapply (bigSep_sep_in _ _ _)
    isplitl [Hs']; · iexact Hs'
    iexact Hnow
  · iintro Hnew
    iapply Hk
    iexists γ, γ₀, κ
    isplitr; · iexact Hinv
    isplitl [Hlater]; · iexact Hlater
    isplitl [Hown]; · iexact Hown
    rw [show (k₀ + s.size hg.axis') * N - u = (k₀ * N - u) + s.size hg.axis' * N by rw [Nat.add_mul]; omega, ← tallyAt_add]
    iapply (cred_add _ _).2
    isplitl [Hcred] <;> iassumption

end Cert.Proof.GatherBatch

end
-- ==== Proof.ScSetup.lean ====
/-
  The SparseCore call of the kernel: its protocol.

  Two SparseCores of sixteen tiles each. Tile `i` of SparseCore `c` copies rows `512 i … 512 i + 511` of the padded
  codebook into its SparseCore's shared memory, meets the other fifteen at the barrier, gathers the 256 codebook rows its
  two rows of indices name out of the shared memory, and writes them to rows `256 w …` of the result, `w = 2 i + c`.

  What is carried where:
    * a call takes to SparseCore `c` half a share of the codebook in sixteen bands, and the index rows and the result rows
      of its tiles; a tile is handed its own band and rows and its band of the shared memory;
    * the barrier carries the codebook: tile `i`'s arrival in tile `j`'s round hands over a sixteenth share of band `i` of
      the shared memory at the codebook's contents, so that after the barrier tile `j` holds a sixteenth share of all of it;
    * a tile hands back its codebook band, its index rows, its result rows at the gathered contents, and its sixteenth of
      the shared memory.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.GatherBatch
public import proofs.«01_k».proof.Proof.Gen.KernelIdeal
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier's, the TensorCore pipeline's, the transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's staging cells' rounds. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers and their bands -/

/-- The padded codebook, the indices and the gathered rows, as the call's operands. -/
abbrev tLoc (d : Dev nD) : Loc nD τ sig := (SparseCore.T d).loc main_v3
abbrev iLoc (d : Dev nD) : Loc nD τ sig := (SparseCore.T d).loc main_v5
abbrev oLoc (d : Dev nD) : Loc nD τ sig := (SparseCore.T d).loc main_v6

/-- SparseCore `c`'s shared memory, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

theorem hdivT : 16 ∣ S8192x128.size 0 := ⟨512, rfl⟩
theorem hdivI : 32 ∣ S64x128.size 0 := ⟨2, rfl⟩
theorem hdivO : 32 ∣ S8192x128.size 0 := ⟨256, rfl⟩
/-- Band `i` of the codebook: rows `512 i …`. -/
abbrev tBand (i : Fin 16) : Rect S8192x128 := Rect.part (s := S8192x128) (a₀ := 0) hdivT i
/-- Index rows `2 w`, `2 w + 1`. -/
abbrev iBand (w : Fin 32) : Rect S64x128 := Rect.part (s := S64x128) (a₀ := 0) hdivI w
/-- Result rows `256 w …`. -/
abbrev oBand (w : Fin 32) : Rect S8192x128 := Rect.part (s := S8192x128) (a₀ := 0) hdivO w

/-- Tile `i` of SparseCore `c` serves number `w = 2 i + c`. -/
def wid (c : Fin 2) (i : Fin 16) : Fin 32 := ⟨2 * i.val + c.val, by omega⟩

/-- Every tile of every SparseCore against the numbers they serve. -/
def widEquiv : Fin 2 × Fin 16 ≃ Fin 32 where
  toFun x := wid x.1 x.2
  invFun w := (⟨w.val % 2, Nat.mod_lt _ (by decide)⟩, ⟨w.val / 2, by omega⟩)
  left_inv x := by
    obtain ⟨c, i⟩ := x
    have := c.isLt
    refine Prod.ext (Fin.ext ?_) (Fin.ext ?_) <;> simp only [wid] <;> omega
  right_inv w := Fin.ext (by simp only [wid]; omega)

section Rows

omit F in
theorem tBands_disjoint : ∀ i ∈ (Finset.univ : Finset (Fin 16)), ∀ j ∈ (Finset.univ : Finset (Fin 16)), i ≠ j → Disjoint (tBand i).set (tBand j).set :=
  fun _ _ _ _ h => Rect.part_disjoint hdivT h
theorem tBands_cover : (Finset.univ : Finset (Fin 16)).biUnion (fun i => (tBand i).set) = Finset.univ := Rect.biUnion_part hdivT
theorem iBands_disjoint : ∀ i ∈ (Finset.univ : Finset (Fin 32)), ∀ j ∈ (Finset.univ : Finset (Fin 32)), i ≠ j → Disjoint (iBand i).set (iBand j).set :=
  fun _ _ _ _ h => Rect.part_disjoint hdivI h
theorem iBands_cover : (Finset.univ : Finset (Fin 32)).biUnion (fun i => (iBand i).set) = Finset.univ := Rect.biUnion_part hdivI
theorem oBands_disjoint : ∀ i ∈ (Finset.univ : Finset (Fin 32)), ∀ j ∈ (Finset.univ : Finset (Fin 32)), i ≠ j → Disjoint (oBand i).set (oBand j).set :=
  fun _ _ _ _ h => Rect.part_disjoint hdivO h
theorem oBands_cover : (Finset.univ : Finset (Fin 32)).biUnion (fun i => (oBand i).set) = Finset.univ := Rect.biUnion_part hdivO

end Rows

/-! ## What the call computes -/

variable (tb : (d : Dev nD) → Buf (Elt F) (tLoc d)) (ix : (d : Dev nD) → Buf (Elt F) (iLoc d))

/-- The index word at place `r` of the 8192 there are: entry `(r / 128, r % 128)`. -/
def ixAt (d : Dev nD) (r : Fin 8192) : BitVec 32 :=
  ix d (fun | 0 => ⟨r.val / 128, by have := r.isLt; show r.val / 128 < 64; omega⟩ | 1 => ⟨r.val % 128, Nat.mod_lt _ (by decide)⟩ | ⟨_ + 2, h⟩ => absurd h (Nat.not_lt.2 (Nat.le_add_left _ _)))

/-- The codebook row that word names (row 0 should it name none: it does not, in a run). -/
def rowOfWord (w : BitVec 32) : Fin 8192 := if h : w.toNat < 8192 then ⟨w.toNat, h⟩ else 0

/-- The gathered rows: row `r` is the codebook row the index at place `r` names. -/
def gath (d : Dev nD) : Buf (Elt F) (oLoc d) := fun x =>
  tb d (fun | 0 => rowOfWord (ixAt ix d (x 0)) | 1 => x 1 | ⟨_ + 2, h⟩ => absurd h (Nat.not_lt.2 (Nat.le_add_left _ _)))

/-! ## The barrier cells -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The share of the shared memory tile `j` reads through: one of sixteen. -/
abbrev share16 (j : Fin 16) : PosShare TreeShare := leaf 4 fullShare (Fin.cast (by decide) j)
/-- The share of the codebook SparseCore `c` reads through: one of two. -/
abbrev share2 (c : Fin 2) : PosShare TreeShare := leaf 1 fullShare (Fin.cast (by decide) c)

abbrev shBandPts (d : Dev nD) (c : Fin τ.nSC) (i : Fin 16) (q : PosShare TreeShare) (f : Buf (Elt F) (shLoc d c)) : sProp 𝕄 :=
  shLoc d c ↦[(tBand i).set]{q} f

/-- What tile `n`'s arrival in tile `j`'s round hands over: tile `j`'s share of band `n` of the shared memory, at the
    codebook's contents. -/
def bPay (g : GSem nD τ sig) (n : ℕ) : sProp 𝕄 :=
  match g with
  | ((d, .scVector c j), _) => if h : n < 16 then shBandPts d c ⟨n, h⟩ (share16 j) (tb d) else iprop(emp)
  | _ => iprop(emp)

/-- The barrier cells' schedule: one round on each, of one unit per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay tb g n
  amount_pos _ _ _ _ := Nat.one_pos

instance bRd_payload_storable (g : GSem nD τ sig) (r n : ℕ) : BI.Storable (upEmb : UEmb _ 𝕄) ((bRd tb).payload g r n) := by
  show BI.Storable upEmb (bPay tb g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd tb).duties (bcell d c j) 0 = (Finset.univ : Finset (Fin τ.nSub)).image Fin.val := by
  simp [bRd, isBar]
theorem bRd_duties_succ (g : GSem nD τ sig) (r : ℕ) (hr : 1 ≤ r) : (bRd tb).duties g r = ∅ :=
  if_neg fun h => absurd h.2 (Nat.ne_of_gt hr)
theorem bRd_mem₀ (d : Dev nD) (c : Fin τ.nSC) (j i : Fin τ.nSub) : i.val ∈ (bRd tb).duties (bcell d c j) 0 := by
  rw [bRd_duties₀]; exact Finset.mem_image_of_mem _ (Finset.mem_univ i)
theorem bRd_expect (d : Dev nD) (c : Fin τ.nSC) (j : Fin τ.nSub) : 0 + grid1.bound 1 = (bRd tb).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore. -/
def oxV (d : Dev nD) (c : Fin τ.nSC) : CellTallies nD τ sig (HIx 1) := ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) :
    ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: the cells' invariants of its SparseCore and that each has reached round 0, its position
    at the origin of its own, its token in every tile's round 0, the credit for the sixteen units of its own. -/
def bkit (d : Dev nD) (c : Fin τ.nSC) (i : Fin τ.nSub) : sProp 𝕄 :=
  iprop((∃ κ : GSem nD τ sig → ℕ, bigSep Finset.univ fun j : Fin (grid1.bound 1) =>
      cellInv EB (bRd tb) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- A tile's operands in HBM as it is handed them: its codebook band, its index rows, its result rows. -/
abbrev opsIn (d : Dev nD) (c : Fin 2) (i : Fin 16) : sProp 𝕄 :=
  iprop((tLoc d ↦[(tBand i).set]{share2 c} tb d) ∗ (iLoc d ↦[(iBand (wid c i)).set]{fullShare} ix d)
    ∗ ∃ f, oLoc d ↦[(oBand (wid c i)).set]{fullShare} f)
/-- And as it hands them back: the result rows gathered. -/
abbrev opsOut (d : Dev nD) (c : Fin 2) (i : Fin 16) : sProp 𝕄 :=
  iprop((tLoc d ↦[(tBand i).set]{share2 c} tb d) ∗ (iLoc d ↦[(iBand (wid c i)).set]{fullShare} ix d)
    ∗ oLoc d ↦[(oBand (wid c i)).set]{fullShare} gath tb ix d)

/-- The barrier semaphores of the tiles of SparseCore `c`, at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

abbrev c2 (c : Fin ((K (F := F)).nCore 0)) : Fin 2 := Fin.cast nCore_zero c
abbrev i16 (i : Fin ((K (F := F)).nSub 0)) : Fin 16 := Fin.cast nSub_zero i

/-- The payloads of the call's handshakes. -/
def P : (K (F := F)).Pay (nD := nD) (Val := Elt F) (Name := ℕ) (U := UU) where
  st := fun q d c => match q with | 0 => bigSep Finset.univ fun i : Fin ((K (F := F)).nSub 0) => opsIn tb ix d (c2 c) (i16 i)
  dn := fun q d c => match q with | 0 => iprop((bigSep Finset.univ fun i : Fin ((K (F := F)).nSub 0) => opsOut tb ix d (c2 c) (i16 i)) ∗ bars d c)
  go := fun q d c i => match q with | 0 => iprop(opsIn tb ix d (c2 c) (i16 i) ∗ ∃ f, shBandPts d (coreOf c) (i16 i) fullShare f)
  td := fun q d c i => match q with
    | 0 => iprop((opsOut tb ix d (c2 c) (i16 i) ∗ semVal (bcell d (coreOf c) ((K (F := F)).sub 0 i)) 0)
        ∗ shLoc d (coreOf c) ↦{share16 (i16 i)} tb d)
  x := fun _ thr => match thr with
    | (d, .scVector c i) => bkit tb d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P tb ix).IsStorable where
  st q d c := match q with
    | 0 => (inferInstance : BI.Storable (upEmb : UEmb _ 𝕄) (bigSep Finset.univ fun i : Fin ((K (F := F)).nSub 0) => opsIn tb ix d (c2 c) (i16 i)))
  dn q d c := match q with
    | 0 => (inferInstance : BI.Storable (upEmb : UEmb _ 𝕄) iprop((bigSep Finset.univ fun i : Fin ((K (F := F)).nSub 0) => opsOut tb ix d (c2 c) (i16 i)) ∗ bars d c))
  go q d c i := match q with
    | 0 => (inferInstance : BI.Storable (upEmb : UEmb _ 𝕄) iprop(opsIn tb ix d (c2 c) (i16 i) ∗ ∃ f, shBandPts d (coreOf c) (i16 i) fullShare f))
  td q d c i := match q with
    | 0 => (inferInstance : BI.Storable (upEmb : UEmb _ 𝕄) iprop((opsOut tb ix d (c2 c) (i16 i) ∗ semVal (bcell d (coreOf c) ((K (F := F)).sub 0 i)) 0)
        ∗ shLoc d (coreOf c) ↦{share16 (i16 i)} tb d))

/-! ## The shared memory split and joined -/

theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

/-- The shared memory is its sixteen bands. -/
theorem shPts_bands (d : Dev nD) (c : Fin τ.nSC) (q : PosShare TreeShare) (f : Buf (Elt F) (shLoc d c)) :
    (shLoc d c ↦{q} f : sProp 𝕄) = bigSep Finset.univ fun i : Fin 16 => shBandPts d c i q f := by
  unfold shBandPts
  rw [← pointsTo_biUnion Finset.univ (ℓ := shLoc d c) (fun i => (tBand i).set) tBands_disjoint, tBands_cover]

/-- Anything held outright is its sixteen shares. -/
theorem pts_share16 {ℓ : Loc nD τ sig} (I : Finset (Idx ℓ)) (f : Buf (Elt F) ℓ) :
    (ℓ ↦[I]{fullShare} f : sProp 𝕄) = bigSep Finset.univ fun j : Fin 16 => ℓ ↦[I]{share16 j} f :=
  pointsTo_leaves I f 4 fullShare
/-- Anything held outright is its two shares. -/
theorem pts_share2 {ℓ : Loc nD τ sig} (I : Finset (Idx ℓ)) (f : Buf (Elt F) ℓ) :
    (ℓ ↦[I]{fullShare} f : sProp 𝕄) = bigSep Finset.univ fun j : Fin 2 => ℓ ↦[I]{share2 j} f :=
  pointsTo_leaves I f 1 fullShare

/-- The shared memory is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P tb ix) 0 := by
  intro d c
  show iprop((bigSep Finset.univ fun i : Fin ((K (F := F)).nSub 0) => opsIn tb ix d (c2 c) (i16 i)) ∗ ownBufs (S d (coreOf c))) ⊢ |={Set.univ}=> iprop(
      (bigSep Finset.univ fun i : Fin ((K (F := F)).nSub 0) => iprop(opsIn tb ix d (c2 c) (i16 i) ∗ ∃ f, shBandPts d (coreOf c) (i16 i) fullShare f))
      ∗ ((bigSep Finset.univ fun i : Fin ((K (F := F)).nSub 0) => iprop((opsOut tb ix d (c2 c) (i16 i) ∗ semVal (bcell d (coreOf c) ((K (F := F)).sub 0 i)) 0)
            ∗ shLoc d (coreOf c) ↦{share16 (i16 i)} tb d))
          -∗ iprop(iprop((bigSep Finset.univ fun i : Fin ((K (F := F)).nSub 0) => opsOut tb ix d (c2 c) (i16 i)) ∗ bars d c) ∗ ownBufs (S d (coreOf c)))))
  simp only [bigSep_sep']
  rw [ownBufs_S]
  rw [bigSep_tasks (F := F) (fun i => iprop(∃ f, shBandPts d (coreOf c) i fullShare f)),
    bigSep_tasks (F := F) (fun i => iprop(shLoc d (coreOf c) ↦{share16 i} tb d))]
  iintro ⟨Hops, ⟨%fsh, Hsh⟩, Hrest⟩; imodintro
  isplitl [Hops Hsh]
  · isplitl [Hops]; · iexact Hops
    ihave Hsh' := ((Entails.of_eq (shPts_bands d (coreOf c) fullShare fsh)).trans (SparseCore.ent (bigSep_mono (Φ := fun i => shBandPts (F := F) d (coreOf c) i fullShare fsh)
      (Ψ := fun i => iprop(∃ f, shBandPts (F := F) d (coreOf c) i fullShare f))
      fun i _ => BI.BIClass.exists_intro (Φ := fun f => shBandPts (F := F) d (coreOf c) i fullShare f) fsh))) $$ Hsh
    iexact Hsh'
  iintro ⟨⟨Hops, Hbars⟩, Hsh⟩
  isplitl [Hops Hbars]
  · isplitl [Hops]; · iexact Hops
    iexact Hbars
  isplitl [Hsh]
  · iexists tb d
    iapply (Entails.of_eq (pts_share16 (F := F) (ℓ := shLoc d (coreOf c)) Finset.univ (tb d)).symm); iexact Hsh
  iexact Hrest

/-! ## The operands split over the tiles and joined -/

/-- A family over the call's SparseCores and tiles, by the numbers they serve. -/
theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

theorem iPts_bands (d : Dev nD) (f : Buf (Elt F) (iLoc d)) :
    (iLoc d ↦{fullShare} f : sProp 𝕄) = bigSep Finset.univ fun w : Fin 32 => iLoc d ↦[(iBand w).set]{fullShare} f := by
  rw [← pointsTo_biUnion Finset.univ (ℓ := iLoc d) (fun w => (iBand w).set) iBands_disjoint, iBands_cover]
theorem oPts_bands (d : Dev nD) (f : Buf (Elt F) (oLoc d)) :
    (oLoc d ↦{fullShare} f : sProp 𝕄) = bigSep Finset.univ fun w : Fin 32 => oLoc d ↦[(oBand w).set]{fullShare} f := by
  rw [← pointsTo_biUnion Finset.univ (ℓ := oLoc d) (fun w => (oBand w).set) oBands_disjoint, oBands_cover]
theorem tPts_bands (d : Dev nD) (q : PosShare TreeShare) (f : Buf (Elt F) (tLoc d)) :
    (tLoc d ↦{q} f : sProp 𝕄) = bigSep Finset.univ fun i : Fin 16 => tLoc d ↦[(tBand i).set]{q} f := by
  rw [← pointsTo_biUnion Finset.univ (ℓ := tLoc d) (fun i => (tBand i).set) tBands_disjoint, tBands_cover]
theorem tPts_shares (d : Dev nD) (f : Buf (Elt F) (tLoc d)) :
    (tLoc d ↦{fullShare} f : sProp 𝕄) = bigSep Finset.univ fun c : Fin 2 => bigSep Finset.univ fun i : Fin 16 => tLoc d ↦[(tBand i).set]{share2 c} f := by
  rw [pts_share2]; exact bigSep_congr fun c _ => tPts_bands d (share2 c) f

/-- The three operands whole, the result at contents `g`, dealt to the tiles. -/
theorem ops_deal (d : Dev nD) (g : Buf (Elt F) (oLoc d)) :
    iprop((tLoc d ↦{fullShare} tb d) ∗ (iLoc d ↦{fullShare} ix d) ∗ oLoc d ↦{fullShare} g)
      = (bigSep Finset.univ fun c : Fin 2 => bigSep Finset.univ fun i : Fin 16 =>
          iprop((tLoc d ↦[(tBand i).set]{share2 c} tb d) ∗ (iLoc d ↦[(iBand (wid c i)).set]{fullShare} ix d) ∗ oLoc d ↦[(oBand (wid c i)).set]{fullShare} g) : sProp 𝕄) := by
  rw [tPts_shares, iPts_bands, oPts_bands, bigSep_wid, bigSep_wid (fun w => iprop(oLoc d ↦[(oBand w).set]{fullShare} g))]
  simp only [bigSep_sep']

theorem bigSep_cores (Φ : Fin 2 → sProp 𝕄) :
    (bigSep Finset.univ fun c : Fin ((K (F := F)).nCore 0) => Φ (c2 c)) = bigSep Finset.univ Φ :=
  bigSep_congr fun _ _ => congrArg Φ (Fin.ext rfl)

/-- The call's operands to its SparseCores. -/
theorem st_intro (d : Dev nD) (g : Buf (Elt F) (oLoc d)) :
    iprop((tLoc d ↦{fullShare} tb d) ∗ (iLoc d ↦{fullShare} ix d) ∗ oLoc d ↦{fullShare} g)
      ⊢ (bigSep Finset.univ fun c : Fin ((K (F := F)).nCore 0) => (P tb ix).st 0 d c : sProp 𝕄) := by
  rw [ops_deal]
  show _ ⊢ bigSep Finset.univ fun c : Fin ((K (F := F)).nCore 0) => bigSep Finset.univ fun i : Fin ((K (F := F)).nSub 0) => opsIn tb ix d (c2 c) (i16 i)
  refine SparseCore.ent (bigSep_mono fun c _ => bigSep_mono fun i _ => ?_)
  show iprop((tLoc d ↦[(tBand i).set]{share2 c} tb d) ∗ (iLoc d ↦[(iBand (wid c i)).set]{fullShare} ix d) ∗ oLoc d ↦[(oBand (wid c i)).set]{fullShare} g)
    ⊢ opsIn tb ix d c i
  iintro ⟨H1, H2, H3⟩
  isplitl [H1]; · iexact H1
  isplitl [H2]; · iexact H2
  iexists g; iexact H3

/-- And back from them: the operands whole, the result gathered; every barrier semaphore at zero. -/
theorem dn_elim (d : Dev nD) :
    (bigSep Finset.univ fun c : Fin ((K (F := F)).nCore 0) => (P tb ix).dn 0 d c : sProp 𝕄)
      ⊢ iprop(((tLoc d ↦{fullShare} tb d) ∗ (iLoc d ↦{fullShare} ix d) ∗ oLoc d ↦{fullShare} gath tb ix d)
          ∗ bigSep Finset.univ fun c : Fin ((K (F := F)).nCore 0) => bars d c) := by
  rw [ops_deal]
  show (bigSep Finset.univ fun c : Fin ((K (F := F)).nCore 0) => iprop((bigSep Finset.univ fun i : Fin ((K (F := F)).nSub 0) => opsOut tb ix d (c2 c) (i16 i)) ∗ bars d c)) ⊢ _
  rw [bigSep_sep']
  iintro ⟨H1, H2⟩
  isplitl [H1]; · iexact H1
  iexact H2

/-! ## The launch element of the ghost state, and what the launch hands over -/

abbrev DCI : Type := Dev nD × Fin τ.nSC × Fin τ.nSub
abbrev bcell₃ (x : DCI) : GSem nD τ sig := bcell x.1 x.2.1 x.2.2

/-- The barrier cells, all tiles': the free semaphores taken at the launch. -/
def bCells : Finset (GSem nD τ sig) := (Finset.univ : Finset DCI).image bcell₃
/-- Tile `i`'s token in tile `j`'s cell, for every pair of tiles of a SparseCore. -/
def bToks : Finset (GSem nD τ sig × ℕ × ℕ) :=
  ((Finset.univ : Finset DCI) ×ˢ Finset.univ).image fun x : DCI × Fin (grid1.bound 1) => (bcell x.1.1 x.1.2.1 (x.2.castLE hsub1), 0, x.1.2.2.val)
/-- The pipeline's part of the launch element. -/
abbrev uP : UP := initOf (Pipeline.cells cfgs cellOf_inj) (Pipeline.launchToks cfgs cellOf_inj)
def u₀ : UU := (initOf (K (F := F)).hsCells (K (F := F)).hsToks, (initOf bCells bToks, (uP, 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (p : UP) : (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU ((1, (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU ((1, (b, (p, 1))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  exact h1.trans (sep_mono_right h2)

/-- Every barrier semaphore at zero, out of the free semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ (dci.1, dci.2.1, dci.2.2))⟩)

/-- The barrier cells' invariants, allocated at once. -/
theorem invs_b : iprop((bigSep bCells fun g => (semVal g 0 : sProp 𝕄)) ∗ bigSep bCells fun g => roundState EB (bRd tb) g 0)
    ⊢ |={Set.univ}=> iprop(∃ κ : GSem nD τ sig → ℕ, bigSep bCells fun g => cellInv EB (bRd tb) (κ g) g) := by
  refine (Rounds.bodies_intro EB (bRd tb) bCells).trans ((inv_alloc_family bCells (Rounds.body EB (bRd tb)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

/-- The credit for the tiles' arrivals, regrouped: each tile the sixteen units of its own cell. -/
theorem creds_b : ((P tb ix).oxCred : sProp 𝕄) ⊢ bigSep (Finset.univ : Finset DCI) fun dci : DCI => cred (tallyAt (bcell₃ dci) (some 0) (grid1.bound 1)) := by
  unfold SparseCore.Cfg.Pay.oxCred
  rw [SparseCore.Cfg.bigSep_threads (fun thr : Thread nD τ => (cred ((P tb ix).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P tb ix).oxFrom 0 (V d c i) = oxV d c := fun i => by
    rw [show (0 : ℕ) = (0 : Fin 1).val from rfl, (P tb ix).oxFrom_step, (P tb ix).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a family goes to each of its members. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ :=
  Transfers.bigSep_mono_pers s R Φ Ψ h

theorem toks_eq : (bigSep bToks fun x => (dutyTok EB x.1 x.2.1 x.2.2 : sProp 𝕄))
    = bigSep (Finset.univ : Finset DCI) fun dci : DCI => bigSep Finset.univ fun j : Fin (grid1.bound 1) => dutyTok EB (bcell dci.1 dci.2.1 (j.castLE hsub1)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P tb ix).x q (SparseCore.T d)) = iprop(emp) :=
  bigSep_univ_of_subsingleton (0 : Fin 1)
theorem Px_S (d : Dev nD) (c : Fin τ.nSC) : (bigSep Finset.univ fun q : Fin 1 => (P tb ix).x q (S d c)) = iprop(emp) :=
  bigSep_univ_of_subsingleton (0 : Fin 1)
theorem Px_V (d : Dev nD) (c : Fin τ.nSC) (i : Fin τ.nSub) : (bigSep Finset.univ fun q : Fin 1 => (P tb ix).x q (V d c i)) = bkit tb d c i :=
  bigSep_univ_of_subsingleton (0 : Fin 1)

theorem bCells_eq (Φ : GSem nD τ sig → sProp 𝕄) : bigSep bCells Φ = bigSep (Finset.univ : Finset DCI) fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep (Finset.univ : Finset DCI) fun x : DCI => cellInv EB (bRd tb) (κ (bcell₃ x)) (bcell₃ x))
    ∗ bigSep (Finset.univ : Finset DCI) fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared tb ∗ mine dci) ⊢ (bkit tb dci.1 dci.2.1 dci.2.2 : sProp 𝕄) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep (Finset.univ : Finset DCI) fun x : DCI => cellInv EB (bRd tb) (κ (bcell₃ x)) (bcell₃ x)) fun j _ =>
        sep_elim_left.trans (bigSep_elim (Φ := fun x : DCI => (cellInv EB (bRd tb) (κ (bcell₃ x)) (bcell₃ x) : sProp 𝕄))
          (Finset.mem_univ (d, c, Fin.castLE hsub1 j)))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep (Finset.univ : Finset DCI) fun x : DCI => reached EB (bcell₃ x) 0) fun j _ =>
        sep_elim_left.trans (bigSep_elim (Φ := fun x : DCI => (reached EB (bcell₃ x) 0 : sProp 𝕄)) (Finset.mem_univ (d, c, Fin.castLE hsub1 j)))))
    isplitl; · iexact Hr
    rw [bigSep_emp']; iempintro
  isplitl [Hat]; · iexact Hat
  iexact Hcred

/-- Each tile its kit. -/
theorem kits_deal :
    iprop(shared tb ∗ (bigSep (Finset.univ : Finset DCI) fun x : DCI => atPos EB (bcell₃ x) 0 ∅ 0)
        ∗ (bigSep (Finset.univ : Finset DCI) fun dci : DCI => bigSep Finset.univ fun j : Fin (grid1.bound 1) => dutyTok EB (bcell dci.1 dci.2.1 (j.castLE hsub1)) 0 dci.2.2.val)
        ∗ (bigSep (Finset.univ : Finset DCI) fun dci : DCI => cred (tallyAt (bcell₃ dci) (some 0) (grid1.bound 1))))
      ⊢ (bigSep Finset.univ fun thr : Thread nD τ => bigSep Finset.univ fun q : Fin 1 => (P tb ix).x q thr : sProp 𝕄) := by
  rw [SparseCore.Cfg.bigSep_threads (fun thr : Thread nD τ => bigSep Finset.univ fun q : Fin 1 => (P tb ix).x q thr)]
  simp only [Px_T, Px_S, Px_V, bigSep_emp']
  iintro ⟨#Hsh, Hat, Htok, Hcred⟩
  isplitr; · iempintro
  isplitr; · iempintro
  iapply (bigSep_mono_frame (R := shared tb) (Φ := mine (F := F)) fun dci _ => kit_intro tb dci)
  isplitr; · iexact Hsh
  unfold mine
  rw [bigSep_sep', bigSep_sep']
  isplitl [Hat]; · iexact Hat
  isplitl [Htok]; · iexact Htok
  iexact Hcred

/-- The pipeline's ghost state of one device. -/
abbrev pipeGhost (d : Dev nD) : sProp 𝕄 :=
  iprop(Pipeline.cellsGhost cfgs EP 0 d ∗ Pipeline.toksInit cfgs EP 0 d)

theorem fund_pipe : (BI.own (EP uP) : sProp 𝕄) ⊢ |==> bigSep Finset.univ fun d : Dev nD => pipeGhost (F := F) d := by
  iintro H
  imod (Pipeline.fund_ghost cfgs EP cellOf_inj) $$ H with ⟨Hg, Ht⟩
  imodintro
  rw [bigSep_sep']
  isplitl [Hg]
  · iapply (SparseCore.ent (bigSep_mono fun d _ => bigSep_elim (Φ := fun p : Fin 1 => (Pipeline.cellsGhost cfgs EP p d : sProp 𝕄)) (Finset.mem_univ 0))); iexact Hg
  · iapply (SparseCore.ent (bigSep_mono fun d _ => bigSep_elim (Φ := fun p : Fin 1 => (Pipeline.toksInit cfgs EP p d : sProp 𝕄)) (Finset.mem_univ 0))); iexact Ht

theorem hu₀ : iprop(ownU (u₀ (F := F)) ∗ (P tb ix).oxCred ∗ (K (F := F)).freeOn (· ∈ bCells))
    ⊢ |={Set.univ}=> iprop(BI.own (EH (initOf (K (F := F)).hsCells (K (F := F)).hsToks)) ∗ (bigSep Finset.univ fun d : Dev nD => pipeGhost d)
        ∗ (bigSep Finset.univ fun thr : Thread nD τ => bigSep Finset.univ fun q : Fin 1 => (P tb ix).x q thr) : sProp 𝕄) := by
  unfold u₀
  iintro ⟨Hu, Hcred, Hfree⟩
  ihave H := (ownU_split _ _ _) $$ Hu
  icases H with ⟨HH, HB, HP⟩
  imod (Rounds.fund EB (bRd tb) bCells bToks) $$ HB with ⟨Hst, #Hr, Hat, Htok⟩
  imod (fund_pipe (F := F)) $$ HP with HP
  ihave Hsems := (sems_b (F := F)) $$ Hfree
  imod (invs_b tb) $$ [Hsems Hst] with ⟨%κ, #Hinv⟩
  · isplitl [Hsems] <;> iassumption
  ihave Hcred' := (creds_b tb ix) $$ Hcred
  ihave Hinv' := (Entails.of_eq (bCells_eq (F := F) fun g => cellInv EB (bRd tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HP]; · iexact HP
  iapply (kits_deal tb ix)
  isplitr
  · isplitl; · iexists κ; iexact Hinv'
    iexact Hr'
  isplitl [Hat']; · iexact Hat'
  isplitl [Htok']; · iexact Htok'
  iexact Hcred'

end Cert.Proof.Sc

end
-- ==== Proof.ScTile.lean ====
/-
  One tile of the SparseCore call: its band of the codebook into the shared memory, its two rows of indices into its own
  memory, the barrier, the two gathers out of the shared memory, and its rows of the result written.
-/
module

public import proofs.«01_k».proof.Proof.ScSetup
public import proofs.«01_k».proof.Proof.Gen.KernelIdeal.Skeleton

@[expose] public section

noncomputable section

namespace Cert.Proof.Sc

open Cert.KernelIdeal Cert.KernelIdeal.Gen Cert.Proof.GatherBatch

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (tb : (d : Dev nD) → Buf (Elt F) (tLoc d)) (ix : (d : Dev nD) → Buf (Elt F) (iLoc d))
variable (d : Dev nD) (L : grid1.Coords)

abbrev cV (L : grid1.Coords) : Fin τ.nSC := (L 0).castLE hcore1
abbrev jV (L : grid1.Coords) : Fin τ.nSub := (L 1).castLE hsub1
abbrev cL (L : grid1.Coords) : Fin 2 := Fin.cast (show grid1.bound 0 = 2 from rfl) (L 0)
abbrev jL (L : grid1.Coords) : Fin 16 := Fin.cast (show grid1.bound 1 = 16 from rfl) (L 1)

/-! ## The buffers and views as the tile addresses them -/

abbrev tV : Memref sig .scVector .hbm S8192x128 .f32 := Memref.whole main_v3_scv
abbrev iV : Memref sig .scVector .hbm S64x128 .i32 := Memref.whole main_v5_scv
abbrev oV : Memref sig .scVector .hbm S8192x128 .f32 := Memref.whole main_v6_scv
abbrev shV : Memref sig .scVector .shared S8192x128 .f32 := Memref.whole cc1_scratch0
abbrev idxV : Memref sig .scVector .vmem S2x128 .i32 := Memref.whole cc1_scratch1
abbrev rowsV : Memref sig .scVector .vmem S256x128 .f32 := Memref.whole cc1_scratch2

/-- The tile's band of the codebook, and of the shared memory; its index rows; its result rows. -/
abbrev tRow (L : grid1.Coords) : Memref sig .scVector .hbm S512x128 .f32 := tV.slice (Rect.unit (s := S8192x128) (k1_off1 L) S512x128.size (k1_off1_inb L)) (fun _ => rfl)
abbrev shRow (L : grid1.Coords) : Memref sig .scVector .shared S512x128 .f32 := shV.slice (Rect.unit (s := S8192x128) (k1_off1 L) S512x128.size (k1_off1_inb L)) (fun _ => rfl)
abbrev iRow (L : grid1.Coords) : Memref sig .scVector .hbm S2x128 .i32 := iV.slice (Rect.unit (s := S64x128) (k1_off2 L) S2x128.size (k1_off2_inb L)) (fun _ => rfl)
abbrev oRow (L : grid1.Coords) : Memref sig .scVector .hbm S256x128 .f32 := oV.slice (Rect.unit (s := S8192x128) (k1_off3 L) S256x128.size (k1_off3_inb L)) (fun _ => rfl)
/-- The shared memory whole, as a gather names its source. -/
abbrev shAll : Memref sig .scVector .shared S8192x128 .f32 := shV.slice (Rect.unit (s := S8192x128) ![0, 0] S8192x128.size inb_S8192x128_S8192x128_0_0) (fun _ => rfl)
/-- The two halves of the row buffer, and the two rows of indices. -/
abbrev rowsA : Memref sig .scVector .vmem S128x128 .f32 := rowsV.slice (Rect.unit (s := S256x128) ![0, 0] S128x128.size inb_S256x128_S128x128_0_0) (fun _ => rfl)
abbrev rowsB : Memref sig .scVector .vmem S128x128 .f32 := rowsV.slice (Rect.unit (s := S256x128) ![128, 0] S128x128.size inb_S256x128_S128x128_128_0) (fun _ => rfl)
abbrev idxA : Memref sig .scVector .vmem S128 .i32 := (idxV.slice (Rect.unit (s := S2x128) ![0, 0] S1x128.size inb_S2x128_S1x128_0_0) (fun _ => rfl)).squeeze S128 squeezes_S1x128_S128
abbrev idxB : Memref sig .scVector .vmem S128 .i32 := (idxV.slice (Rect.unit (s := S2x128) ![1, 0] S1x128.size inb_S2x128_S1x128_1_0) (fun _ => rfl)).squeeze S128 squeezes_S1x128_S128

theorem rect1_eq : Rect.unit (s := S8192x128) (k1_off1 L) S512x128.size (k1_off1_inb L) = tBand (jL L) := by
  unfold tBand Rect.part Rect.block
  congr 1 <;> funext a
  · rw [k1_off1_eq]
    match a with
    | 0 => simp [Shape.partIx, Shape.partSize, Nat.mul_comm]
    | 1 => simp [Shape.partIx, Shape.partSize]
  · match a with
    | 0 => simp [Shape.partSize]
    | 1 => simp [Shape.partSize]
theorem rect2_eq : Rect.unit (s := S64x128) (k1_off2 L) S2x128.size (k1_off2_inb L) = iBand (wid (cL L) (jL L)) := by
  unfold iBand Rect.part Rect.block
  congr 1 <;> funext a
  · rw [k1_off2_eq]
    match a with
    | 0 => simp [Shape.partIx, Shape.partSize, wid]; omega
    | 1 => simp [Shape.partIx, Shape.partSize]
  · match a with
    | 0 => simp [Shape.partSize]
    | 1 => simp [Shape.partSize]
theorem rect3_eq : Rect.unit (s := S8192x128) (k1_off3 L) S256x128.size (k1_off3_inb L) = oBand (wid (cL L) (jL L)) := by
  unfold oBand Rect.part Rect.block
  congr 1 <;> funext a
  · rw [k1_off3_eq]
    match a with
    | 0 => simp [Shape.partIx, Shape.partSize, wid]; omega
    | 1 => simp [Shape.partIx, Shape.partSize]
  · match a with
    | 0 => simp [Shape.partSize]
    | 1 => simp [Shape.partSize]

theorem set_whole_slice {κ : Kind} (b : Ref sig κ) (r : Rect b.ty.shape) : ((View.whole b).slice r).set = r.set := by
  rw [View.set_slice]; exact Finset.map_refl

theorem set_tRow : (tRow L).view.set = (tBand (jL L)).set := by
  show ((View.whole main_v3_scv).slice _).set = _
  rw [set_whole_slice]; exact rect1_eq L ▸ rfl
theorem set_shRow : (shRow L).view.set = (tBand (jL L)).set := by
  show ((View.whole cc1_scratch0).slice _).set = _
  rw [set_whole_slice]; exact rect1_eq L ▸ rfl
theorem set_iRow : (iRow L).view.set = (iBand (wid (cL L) (jL L))).set := by
  show ((View.whole main_v5_scv).slice _).set = _
  rw [set_whole_slice]; exact rect2_eq L ▸ rfl
theorem set_oRow : (oRow L).view.set = (oBand (wid (cL L) (jL L))).set := by
  show ((View.whole main_v6_scv).slice _).set = _
  rw [set_whole_slice]; exact rect3_eq L ▸ rfl
theorem set_shAll : shAll.view.set = Finset.univ := by
  show ((View.whole cc1_scratch0).slice _).set = _
  rw [set_whole_slice]
  ext x
  refine ⟨fun _ => Finset.mem_univ _, fun _ => ?_⟩
  rw [← Rect.map_emb_univ]
  exact Finset.mem_map.mpr ⟨x, Finset.mem_univ _, funext fun a => Fin.ext (by match a with | 0 => simp [Rect.emb_apply] | 1 => simp [Rect.emb_apply])⟩

theorem hdivR : 2 ∣ S256x128.size 0 := ⟨128, rfl⟩
theorem hdivX : 2 ∣ S2x128.size 0 := ⟨1, rfl⟩
theorem rectA_eq : Rect.unit (s := S256x128) ![0, 0] S128x128.size inb_S256x128_S128x128_0_0 = Rect.part (s := S256x128) (a₀ := 0) hdivR 0 := by
  unfold Rect.part Rect.block
  congr 1 <;> funext a <;> match a with | 0 => simp [Shape.partIx, Shape.partSize] | 1 => simp [Shape.partIx, Shape.partSize]
theorem rectB_eq : Rect.unit (s := S256x128) ![128, 0] S128x128.size inb_S256x128_S128x128_128_0 = Rect.part (s := S256x128) (a₀ := 0) hdivR 1 := by
  unfold Rect.part Rect.block
  congr 1 <;> funext a <;> match a with | 0 => simp [Shape.partIx, Shape.partSize] | 1 => simp [Shape.partIx, Shape.partSize]
theorem rectXA_eq : Rect.unit (s := S2x128) ![0, 0] S1x128.size inb_S2x128_S1x128_0_0 = Rect.part (s := S2x128) (a₀ := 0) hdivX 0 := by
  unfold Rect.part Rect.block
  congr 1 <;> funext a <;> match a with | 0 => simp [Shape.partIx, Shape.partSize] | 1 => simp [Shape.partIx, Shape.partSize]
theorem rectXB_eq : Rect.unit (s := S2x128) ![1, 0] S1x128.size inb_S2x128_S1x128_1_0 = Rect.part (s := S2x128) (a₀ := 0) hdivX 1 := by
  unfold Rect.part Rect.block
  congr 1 <;> funext a <;> match a with | 0 => simp [Shape.partIx, Shape.partSize] | 1 => simp [Shape.partIx, Shape.partSize]

theorem set_rowsA : rowsA.view.set = (Rect.part (s := S256x128) (a₀ := 0) hdivR 0).set := by
  show ((View.whole cc1_scratch2).slice _).set = _
  rw [set_whole_slice]; exact rectA_eq ▸ rfl
theorem set_rowsB : rowsB.view.set = (Rect.part (s := S256x128) (a₀ := 0) hdivR 1).set := by
  show ((View.whole cc1_scratch2).slice _).set = _
  rw [set_whole_slice]; exact rectB_eq ▸ rfl
theorem set_idxA : idxA.view.set = (Rect.part (s := S2x128) (a₀ := 0) hdivX 0).set := by
  show (((View.whole cc1_scratch1).slice (Rect.unit (s := S2x128) ![0, 0] S1x128.size inb_S2x128_S1x128_0_0)).reshape S128 squeezes_S1x128_S128.numel_eq).set = _
  rw [View.set_reshape, set_whole_slice]; exact rectXA_eq ▸ rfl
theorem set_idxB : idxB.view.set = (Rect.part (s := S2x128) (a₀ := 0) hdivX 1).set := by
  show (((View.whole cc1_scratch1).slice (Rect.unit (s := S2x128) ![1, 0] S1x128.size inb_S2x128_S1x128_1_0)).reshape S128 squeezes_S1x128_S128.numel_eq).set = _
  rw [View.set_reshape, set_whole_slice]; exact rectXB_eq ▸ rfl

/-- The row buffer is its two halves. -/
theorem rows_halves (f : Buf (Elt F) (rowsV.view.loc (V d (cV L) (jV L)))) :
    (rowsV.view.loc (V d (cV L) (jV L)) ↦{fullShare} f : sProp 𝕄)
      = iprop((rowsA.view.loc (V d (cV L) (jV L)) ↦[rowsA.view.set]{fullShare} f) ∗ (rowsB.view.loc (V d (cV L) (jV L)) ↦[rowsB.view.set]{fullShare} f)) := by
  have h := pointsTo_biUnion (Ix := HIx 1) (Name := ℕ) (U := UU) (Lvl := ℕ) (q := fullShare) (f := f) (Finset.univ : Finset (Fin 2)) (ℓ := rowsV.view.loc (V d (cV L) (jV L)))
    (fun i => (Rect.part (s := S256x128) (a₀ := 0) hdivR i).set) (fun _ _ _ _ h => Rect.part_disjoint hdivR h)
  rw [Rect.biUnion_part hdivR, bigSep_fin_two] at h
  rw [set_rowsA, set_rowsB]
  exact h
/-- The index buffer is its two rows. -/
theorem idx_halves (f : Buf (Elt F) (idxV.view.loc (V d (cV L) (jV L)))) :
    (idxV.view.loc (V d (cV L) (jV L)) ↦{fullShare} f : sProp 𝕄)
      = iprop((idxA.view.loc (V d (cV L) (jV L)) ↦[idxA.view.set]{fullShare} f) ∗ (idxB.view.loc (V d (cV L) (jV L)) ↦[idxB.view.set]{fullShare} f)) := by
  have h := pointsTo_biUnion (Ix := HIx 1) (Name := ℕ) (U := UU) (Lvl := ℕ) (q := fullShare) (f := f) (Finset.univ : Finset (Fin 2)) (ℓ := idxV.view.loc (V d (cV L) (jV L)))
    (fun i => (Rect.part (s := S2x128) (a₀ := 0) hdivX i).set) (fun _ _ _ _ h => Rect.part_disjoint hdivX h)
  rw [Rect.biUnion_part hdivX, bigSep_fin_two] at h
  rw [set_idxA, set_idxB]
  exact h
/-- A share of the shared memory is two shares of it, one for each gather. -/
abbrev shareG (L : grid1.Coords) (k : Fin 2) : PosShare TreeShare := leaf 1 (share16 (jL L)) (Fin.cast (by decide) k)
theorem sh_halves (f : Buf (Elt F) (shLoc d (cV L))) :
    (shLoc d (cV L) ↦{share16 (jL L)} f : sProp 𝕄)
      = iprop((shAll.view.loc (V d (cV L) (jV L)) ↦[shAll.view.set]{shareG L 0} f) ∗ (shAll.view.loc (V d (cV L) (jV L)) ↦[shAll.view.set]{shareG L 1} f)) := by
  rw [set_shAll]
  exact (pointsTo_leaves Finset.univ f 1 (share16 (jL L))).trans (bigSep_fin_two (fun k : Fin 2 => iprop(shLoc d (cV L) ↦{shareG L k} f)))

/-! ## What the copies and the gathers leave -/

/-- Two contents a view reads alike agree on its elements. -/
theorem eq_on_set {κ : Kind} {sp : Space} {s : Shape} {e : EltTy} (v : View sig κ sp s e) {f g : v.ty.Contents (Elt F)}
    (h : ∀ x, v.read (Elt F) f x = v.read (Elt F) g x) : ∀ i ∈ v.set, f i = g i := by
  intro i hi
  obtain ⟨x, -, rfl⟩ := Finset.mem_map.mp hi
  have := h x
  rw [View.read_apply, View.read_apply] at this
  exact (cast_inj _).mp this

/-- The tile's two rows of indices, as its own memory holds them. -/
def idxW : Buf (Elt F) (idxV.view.loc (V d (cV L) (jV L))) := (iRow L).view.read (Elt F) (ix d)
/-- The tile's 256 result rows, as its own memory holds them. -/
def rowsW : Buf (Elt F) (rowsV.view.loc (V d (cV L) (jV L))) := (oRow L).view.read (Elt F) (gath tb ix d)

theorem idxA_emb : ∀ k : Fin 128, (idxA.view.emb (S128.rowMajor.symm k) 0).val = 0 ∧ (idxA.view.emb (S128.rowMajor.symm k) 1).val = k.val := by
  decide +kernel
theorem idxB_emb : ∀ k : Fin 128, (idxB.view.emb (S128.rowMajor.symm k) 0).val = 1 ∧ (idxB.view.emb (S128.rowMajor.symm k) 1).val = k.val := by
  decide +kernel

variable {ix} in
theorem hinA (hix : ∀ d x, (ix d x).toNat < 8192) : ∀ x, (idxA.view.read (Elt F) (idxW ix d L) x).toNat < S8192x128.size gathers_S8192x128_S128x128.axis :=
  fun _ => hix d _
variable {ix} in
theorem hinB (hix : ∀ d x, (ix d x).toNat < 8192) : ∀ x, (idxB.view.read (Elt F) (idxW ix d L) x).toNat < S8192x128.size gathers_S8192x128_S128x128.axis :=
  fun _ => hix d _

/-- The word of the index buffer's row `o` at place `k` is the index at place `256 w + 128 o + k` of them all. -/
theorem idxW_at (o : ℕ) (ho : o < 2) (k : Fin 128) (y : S2x128.Idx) (hy0 : (y 0).val = o) (hy1 : (y 1).val = k.val) (r : Fin 8192)
    (hr : r.val = 512 * (L 1).val + 256 * (L 0).val + 128 * o + k.val) : idxW ix d L y = ixAt ix d r := by
  have hk := k.isLt
  show ix d ((Rect.unit (s := S64x128) (k1_off2 L) S2x128.size (k1_off2_inb L)).emb y) = _
  unfold ixAt
  congr 1
  funext a
  match a with
  | 0 =>
    refine Fin.ext ?_
    show k1_off2 L 0 + 1 * (y 0).val = r.val / 128
    rw [k1_off2_eq, hy0, hr]
    show 4 * (L 1).val + 2 * (L 0).val + 1 * o = _
    omega
  | 1 =>
    refine Fin.ext ?_
    show k1_off2 L 1 + 1 * (y 1).val = r.val % 128
    rw [k1_off2_eq, hy1, hr]
    show 0 + 1 * k.val = _
    omega

/-- The index at place `256 w + 128 o + k` names the row the gathered contents have there. -/
theorem rowsW_at (o : ℕ) (ho : o < 2) (x : S128x128.Idx) (z : S256x128.Idx) (hz0 : (z 0).val = 128 * o + (x 0).val) (hz1 : (z 1).val = (x 1).val)
    (i : S8192x128.Idx) (hi1 : (i 1).val = (x 1).val)
    (hi0 : ∀ r : Fin 8192, r.val = 512 * (L 1).val + 256 * (L 0).val + 128 * o + (x 0).val → (i 0).val = (rowOfWord (ixAt ix d r)).val) :
    rowsW tb ix d L z = tb d i := by
  show gath tb ix d ((Rect.unit (s := S8192x128) (k1_off3 L) S256x128.size (k1_off3_inb L)).emb z) = _
  unfold gath
  congr 1
  funext a
  match a with
  | 0 =>
    refine Fin.ext (hi0 _ ?_).symm
    show k1_off3 L 0 + 1 * (z 0).val = _
    rw [k1_off3_eq, hz0]
    show 512 * (L 1).val + 256 * (L 0).val + 1 * (128 * o + (x 0).val) = _
    omega
  | 1 =>
    refine Fin.ext ?_
    show k1_off3 L 1 + 1 * (z 1).val = (i 1).val
    rw [k1_off3_eq, hz1, hi1]
    show 0 + 1 * (x 1).val = _
    omega

theorem rowOfWord_val {w : BitVec 32} (h : w.toNat < 8192) : (rowOfWord w).val = w.toNat := by
  unfold rowOfWord; rw [dif_pos h]

variable {ix} in
/-- The first gather leaves the first 128 of the tile's result rows. -/
theorem gatherA_leaves (hix : ∀ d x, (ix d x).toNat < 8192) (f : Buf (Elt F) (rowsV.view.loc (V d (cV L) (jV L)))) :
    ∀ i ∈ rowsA.view.set, rowsA.view.write (Elt F) f (SparseCore.gatherPayload gathers_S8192x128_S128x128 (shAll.view.read (Elt F) (tb d))
        (SparseCore.rows (idxA.view.read (Elt F) (idxW ix d L)) rfl (hinA d L hix))) Finset.univ i = rowsW tb ix d L i := by
  refine eq_on_set rowsA.view fun x => ?_
  rw [View.read_write_univ]
  refine (rowsW_at tb ix d L 0 (by decide) x (rowsA.view.emb x) ?_ ?_ (shAll.view.emb _) ?_ ?_).symm
  · show 0 + 1 * (x 0).val = _; omega
  · show 0 + 1 * (x 1).val = _; omega
  · show 0 + 1 * (Shape.Gathers.idx gathers_S8192x128_S128x128 _ x 1).val = _
    rw [Shape.Gathers.idx_of_ne _ _ _ 1 (by decide)]
    show 0 + 1 * (x 1).val = _; omega
  · intro r hr
    show 0 + 1 * (Shape.Gathers.idx gathers_S8192x128_S128x128 _ x 0).val = _
    have hw := idxW_at ix d L 0 (by decide) (x 0) _ (idxA_emb (x 0)).1 (idxA_emb (x 0)).2 r hr
    rw [← hw]
    refine Eq.trans ?_ (rowOfWord_val (hix d _)).symm
    refine (show ∀ a : ℕ, 0 + 1 * a = a by intro a; omega) _ |>.trans ?_
    exact congrArg Fin.val (Shape.Gathers.idx_axis gathers_S8192x128_S128x128 _ x)

variable {ix} in
/-- The second gather leaves the last 128 of them. -/
theorem gatherB_leaves (hix : ∀ d x, (ix d x).toNat < 8192) (f : Buf (Elt F) (rowsV.view.loc (V d (cV L) (jV L)))) :
    ∀ i ∈ rowsB.view.set, rowsB.view.write (Elt F) f (SparseCore.gatherPayload gathers_S8192x128_S128x128 (shAll.view.read (Elt F) (tb d))
        (SparseCore.rows (idxB.view.read (Elt F) (idxW ix d L)) rfl (hinB d L hix))) Finset.univ i = rowsW tb ix d L i := by
  refine eq_on_set rowsB.view fun x => ?_
  rw [View.read_write_univ]
  refine (rowsW_at tb ix d L 1 (by decide) x (rowsB.view.emb x) ?_ ?_ (shAll.view.emb _) ?_ ?_).symm
  · show 128 + 1 * (x 0).val = _; omega
  · show 0 + 1 * (x 1).val = _; omega
  · show 0 + 1 * (Shape.Gathers.idx gathers_S8192x128_S128x128 _ x 1).val = _
    rw [Shape.Gathers.idx_of_ne _ _ _ 1 (by decide)]
    show 0 + 1 * (x 1).val = _; omega
  · intro r hr
    show 0 + 1 * (Shape.Gathers.idx gathers_S8192x128_S128x128 _ x 0).val = _
    have hw := idxW_at ix d L 1 (by decide) (x 0) _ (idxB_emb (x 0)).1 (idxB_emb (x 0)).2 r hr
    rw [← hw]
    refine Eq.trans ?_ (rowOfWord_val (hix d _)).symm
    refine (show ∀ a : ℕ, 0 + 1 * a = a by intro a; omega) _ |>.trans ?_
    exact congrArg Fin.val (Shape.Gathers.idx_axis gathers_S8192x128_S128x128 _ x)

/-- The tile's copy leaves its band of the shared memory at the codebook's contents. -/
theorem band_filled (f : Buf (Elt F) (shLoc d (cV L))) :
    ∀ i ∈ (shRow L).view.set, (shRow L).view.writes (Elt F) f [⟨Rect.whole S512x128, (tRow L).view.read (Elt F) (tb d)⟩] i = tb d i := by
  refine eq_on_set (shRow L).view fun x => ?_
  have h := View.read_writes_cons_emb (shRow L).view f (Rect.whole S512x128) ((tRow L).view.read (Elt F) (tb d)) [] x
  rw [Rect.emb_whole_apply] at h
  exact h

variable {L} in
theorem pts_tRow (q : PosShare TreeShare) (f : Buf (Elt F) (tLoc d)) :
    ((tRow L).view.loc (V d (cV L) (jV L)) ↦[(tRow L).view.set]{q} f : sProp 𝕄) = tLoc d ↦[(tBand (jL L)).set]{q} f := by
  rw [set_tRow]
theorem pts_shRow (f : Buf (Elt F) (shLoc d (cV L))) :
    ((shRow L).view.loc (V d (cV L) (jV L)) ↦[(shRow L).view.set]{fullShare} f : sProp 𝕄) = shBandPts d (cV L) (jL L) fullShare f := by
  unfold shBandPts; rw [set_shRow]; rfl
theorem pts_iRow (f : Buf (Elt F) (iLoc d)) :
    ((iRow L).view.loc (V d (cV L) (jV L)) ↦[(iRow L).view.set]{fullShare} f : sProp 𝕄) = iLoc d ↦[(iBand (wid (cL L) (jL L))).set]{fullShare} f := by
  rw [set_iRow]
theorem pts_oRow (f : Buf (Elt F) (oLoc d)) :
    ((oRow L).view.loc (V d (cV L) (jV L)) ↦[(oRow L).view.set]{fullShare} f : sProp 𝕄) = oLoc d ↦[(oBand (wid (cL L) (jL L))).set]{fullShare} f := by
  rw [set_oRow]

abbrev stCell (d : Dev nD) (c : Fin τ.nSC) (i : Fin τ.nSub) : GSem nD τ sig := (V d c i, .dma cc1_scratch3.sem)
abbrev gaCell (d : Dev nD) (c : Fin τ.nSC) (i : Fin τ.nSub) : GSem nD τ sig := (V d c i, .dma cc1_scratch4.sem)
abbrev inCell (d : Dev nD) (c : Fin τ.nSC) (i : Fin τ.nSub) : GSem nD τ sig := (V d c i, .dma cc1_scoped0.sem)
abbrev ouCell (d : Dev nD) (c : Fin τ.nSC) (i : Fin τ.nSub) : GSem nD τ sig := (V d c i, .dma cc1_scoped1.sem)

theorem ownSems0_V :
    (ownSems0 (V d (cV L) (jV L)) : sProp 𝕄)
      = iprop(semVal (stCell d (cV L) (jV L)) 0 ∗ semVal (gaCell d (cV L) (jV L)) 0 ∗ semVal (inCell d (cV L) (jV L)) 0 ∗ semVal (ouCell d (cV L) (jV L)) 0
          ∗ bigSep (((((ownCells (V d (cV L) (jV L))).erase (stCell d (cV L) (jV L))).erase (gaCell d (cV L) (jV L))).erase (inCell d (cV L) (jV L))).erase (ouCell d (cV L) (jV L))) fun g => semVal g 0) := by
  unfold SparseCore.Cfg.ownSems0
  have h {sm : DmaSem sig} (hs : (SemLoc.dma sm : SemLoc sig).isScoped .scVector = true) : ((V d (cV L) (jV L), SemLoc.dma sm) : GSem nD τ sig) ∈ ownCells (V d (cV L) (jV L)) :=
    mem_ownCells.mpr ⟨rfl, hs⟩
  have ne {a b : DmaSem sig} (hab : a ≠ b) : ((V d (cV L) (jV L), SemLoc.dma a) : GSem nD τ sig) ≠ (V d (cV L) (jV L), SemLoc.dma b) :=
    fun e => hab (SemLoc.dma.inj (Prod.mk.inj e).2)
  rw [SparseCore.bigSep_erase' (h (sm := cc1_scratch3.sem) (by decide)),
    SparseCore.bigSep_erase' (Finset.mem_erase.mpr ⟨ne (by decide), h (sm := cc1_scratch4.sem) (by decide)⟩),
    SparseCore.bigSep_erase' (Finset.mem_erase.mpr ⟨ne (by decide), Finset.mem_erase.mpr ⟨ne (by decide), h (sm := cc1_scoped0.sem) (by decide)⟩⟩),
    SparseCore.bigSep_erase' (Finset.mem_erase.mpr ⟨ne (by decide), Finset.mem_erase.mpr ⟨ne (by decide), Finset.mem_erase.mpr ⟨ne (by decide), h (sm := cc1_scoped1.sem) (by decide)⟩⟩⟩)]

abbrev vRef (L : grid1.Coords) (b : Ref sig .scVector) : DevRef τ sig := (Proc.scVector (cV L) (jV L)).devRef b

theorem ownBufs_V :
    (ownBufs (V d (cV L) (jV L)) : sProp 𝕄)
      = iprop((∃ f, (V d (cV L) (jV L)).loc cc1_scratch1 ↦{fullShare} f) ∗ (∃ f, (V d (cV L) (jV L)).loc cc1_scratch2 ↦{fullShare} f)
          ∗ bigSep (((ownRefs (τ := τ) (.scVector (cV L) (jV L))).erase (vRef L cc1_scratch1)).erase (vRef L cc1_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := vRef L cc1_scratch1) rfl),
    SparseCore.bigSep_erase' (Finset.mem_erase.mpr ⟨by simp [vRef], SparseCore.Cfg.mem_ownRefs_of_owner (p := Proc.scVector (cV L) (jV L)) (b := vRef L cc1_scratch2) rfl⟩)]

/-- Before the barrier, the tile's band of the shared memory, at the codebook's contents, is what its duties hand over. -/
theorem pays_intro : shBandPts d (cV L) (jL L) fullShare (tb d)
    ⊢ (bigSep Finset.univ fun j : Fin (grid1.bound 1) => (bRd tb).payload (bcell d (cV L) (j.castLE hsub1)) 0 (jV L).val : sProp 𝕄) := by
  unfold shBandPts
  rw [pts_share16]
  refine SparseCore.ent (bigSep_mono fun j _ => ?_)
  show _ ⊢ bPay tb (bcell d (cV L) (Fin.castLE hsub1 j)) (jV L).val
  unfold bPay; dsimp only
  rw [dif_pos (show (jV L).val < 16 from (jL L).isLt)]
  exact BI.Entails.refl _

/-- After it, what its own round collected is the tile's share of the shared memory, at the codebook's contents. -/
theorem pays_elim : (bigSep ((bRd tb).duties (bcell d (cV L) (jV L)) 0 \ ∅) fun n => (bRd tb).payload (bcell d (cV L) (jV L)) 0 n)
    ⊢ (shLoc d (cV L) ↦{share16 (jL L)} tb d : sProp 𝕄) := by
  rw [Finset.sdiff_empty, bRd_duties₀, SparseCore.bigSep_image_of_injOn (fun a _ b _ e => Fin.ext e), shPts_bands]
  refine SparseCore.ent (bigSep_mono fun n _ => ?_)
  show bPay tb (bcell d (cV L) (jV L)) n.val ⊢ _
  unfold bPay; dsimp only
  rw [dif_pos (show n.val < 16 from n.isLt)]
  exact BI.Entails.refl _

/-- The tile's last copy leaves its result rows gathered. -/
theorem rows_out (f : Buf (Elt F) (oLoc d)) :
    ∀ i ∈ (oRow L).view.set, (oRow L).view.writes (Elt F) f [⟨Rect.whole S256x128, rowsW tb ix d L⟩] i = gath tb ix d i := by
  refine eq_on_set (oRow L).view fun x => ?_
  have h := View.read_writes_cons_emb (oRow L).view f (Rect.whole S256x128) (rowsW tb ix d L) [] x
  rw [Rect.emb_whole_apply] at h
  exact h

/-! ## The two gathers as one batch -/

variable {ix} in
/-- What the first gather's rows hand back, and the second's. -/
abbrev landA (hix : ∀ d x, (ix d x).toNat < 8192) (f : Buf (Elt F) (rowsV.view.loc (V d (cV L) (jV L)))) : Fin 128 → sProp 𝕄 :=
  rowLanded (V d (cV L) (jV L)) shAll rowsA gathers_S8192x128_S128x128 idxA rfl (by decide) (shareG L 0) fullShare (tb d) f (idxW ix d L) (hinA d L hix)
variable {ix} in
abbrev landB (hix : ∀ d x, (ix d x).toNat < 8192) (f : Buf (Elt F) (rowsV.view.loc (V d (cV L) (jV L)))) : Fin 128 → sProp 𝕄 :=
  rowLanded (V d (cV L) (jV L)) shAll rowsB gathers_S8192x128_S128x128 idxB rfl (by decide) (shareG L 1) fullShare (tb d) f (idxW ix d L) (hinB d L hix)
variable {ix} in
/-- Both gathers' rows, the first's before the second's. -/
def landD (hix : ∀ d x, (ix d x).toNat < 8192) (f : Buf (Elt F) (rowsV.view.loc (V d (cV L) (jV L)))) : Fin (128 + 128) → sProp 𝕄 :=
  Fin.addCases (landA tb d L hix f) (landB tb d L hix f)
variable {ix} in
theorem landD_left (hix : ∀ d x, (ix d x).toNat < 8192) (f : Buf (Elt F) (rowsV.view.loc (V d (cV L) (jV L)))) (j : Fin 128) :
    landD tb d L hix f (j.castAdd 128) = landA tb d L hix f j := Fin.addCases_left (motive := fun _ => sProp 𝕄) j
variable {ix} in
theorem landD_right (hix : ∀ d x, (ix d x).toNat < 8192) (f : Buf (Elt F) (rowsV.view.loc (V d (cV L) (jV L)))) (j : Fin 128) :
    landD tb d L hix f (j.natAdd 128) = landB tb d L hix f j := Fin.addCases_right (motive := fun _ => sProp 𝕄) j
variable {ix} in
theorem landD_A (hix : ∀ d x, (ix d x).toNat < 8192) (f : Buf (Elt F) (rowsV.view.loc (V d (cV L) (jV L)))) (j : Fin (S128x128.size gathers_S8192x128_S128x128.axis')) :
    landA tb d L hix f j ⊢ landD tb d L hix f ⟨0 + j.val, by have := (show Fin 128 from j).isLt; show 0 + (show Fin 128 from j).val < _; omega⟩ :=
  Entails.of_eq ((landD_left tb d L hix f j).symm.trans (congrArg _ (Fin.ext (Nat.zero_add _).symm)))
variable {ix} in
theorem landD_B (hix : ∀ d x, (ix d x).toNat < 8192) (f : Buf (Elt F) (rowsV.view.loc (V d (cV L) (jV L)))) (j : Fin (S128x128.size gathers_S8192x128_S128x128.axis')) :
    landB tb d L hix f j ⊢ landD tb d L hix f ⟨128 + j.val, by have := (show Fin 128 from j).isLt; show 128 + (show Fin 128 from j).val < _; omega⟩ :=
  Entails.of_eq (landD_right tb d L hix f j).symm
variable {ix} in
theorem landD_rowsA (hix : ∀ d x, (ix d x).toNat < 8192) (f : Buf (Elt F) (rowsV.view.loc (V d (cV L) (jV L)))) :
    (bigSep Finset.univ fun j : Fin 128 => landD tb d L hix f (j.castAdd 128))
      ⊢ iprop((rowsA.view.loc (V d (cV L) (jV L)) ↦[rowsA.view.set]{fullShare} rowsW tb ix d L) ∗ (idxA.view.loc (V d (cV L) (jV L)) ↦[idxA.view.set]{fullShare} idxW ix d L)
          ∗ (shAll.view.loc (V d (cV L) (jV L)) ↦[shAll.view.set]{shareG L 0} tb d)) := by
  rw [← pointsTo_congr (gatherA_leaves tb d L hix f), show (fun j : Fin 128 => landD tb d L hix f (j.castAdd 128)) = landA tb d L hix f from
    funext (landD_left tb d L hix f)]
  exact rows_landed _ _ _ _ _ _ _ _ _ _ _ _ (hinA d L hix)
variable {ix} in
theorem landD_rowsB (hix : ∀ d x, (ix d x).toNat < 8192) (f : Buf (Elt F) (rowsV.view.loc (V d (cV L) (jV L)))) :
    (bigSep Finset.univ fun j : Fin 128 => landD tb d L hix f (j.natAdd 128))
      ⊢ iprop((rowsB.view.loc (V d (cV L) (jV L)) ↦[rowsB.view.set]{fullShare} rowsW tb ix d L) ∗ (idxB.view.loc (V d (cV L) (jV L)) ↦[idxB.view.set]{fullShare} idxW ix d L)
          ∗ (shAll.view.loc (V d (cV L) (jV L)) ↦[shAll.view.set]{shareG L 1} tb d)) := by
  rw [← pointsTo_congr (gatherB_leaves tb d L hix f), show (fun j : Fin 128 => landD tb d L hix f (j.natAdd 128)) = landB tb d L hix f from
    funext (landD_right tb d L hix f)]
  exact rows_landed _ _ _ _ _ _ _ _ _ _ _ _ (hinB d L hix)
variable {ix} in
theorem landD_storable (hix : ∀ d x, (ix d x).toNat < 8192) (f : Buf (Elt F) (rowsV.view.loc (V d (cV L) (jV L)))) (t : Fin (128 + 128)) :
    Storable (upEmb : UEmb _ 𝕄) (landD tb d L hix f t) := by
  refine Fin.addCases (motive := fun t => Storable (upEmb : UEmb _ 𝕄) (landD tb d L hix f t)) (fun j => ?_) (fun j => ?_) t
  · rw [landD_left]; exact rowLanded_storable ..
  · rw [landD_right]; exact rowLanded_storable ..

/-- The axis the gathers name rows on. -/
abbrev gAx : Fin S128x128.rank := gathers_S8192x128_S128x128.axis'
/-- What one row's transfer is counted as. -/
abbrev rowCredit : ℕ := (rowsA.slice (S128x128.rowRect gAx (⟨0, by decide⟩ : Fin (S128x128.size gAx))) (S128x128.stride_rowRect _ _)).view.dmaCredit
theorem rowCredit_A (j : Fin (S128x128.size gAx)) : (rowsA.slice (S128x128.rowRect gAx j) (S128x128.stride_rowRect gAx j)).view.dmaCredit = rowCredit := rfl
theorem rowCredit_B (j : Fin (S128x128.size gAx)) : (rowsB.slice (S128x128.rowRect gAx j) (S128x128.stride_rowRect gAx j)).view.dmaCredit = rowCredit := rfl
theorem credit_A : rowsA.view.dmaCredit = 128 * rowCredit := by decide +kernel
theorem credit_B : rowsB.view.dmaCredit = 128 * rowCredit := by decide +kernel
theorem rowCredit_pos : 0 < rowCredit := by decide +kernel

set_option maxHeartbeats 4000000 in
theorem tile_body (hF : (K (F := F)).Facts) (hix : ∀ d x, (ix d x).toNat < 8192) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit tb d (cV L) (jV L)
        ∗ (opsIn tb ix d (cL L) (jL L) ∗ ∃ f, shBandPts d (cV L) (jL L) fullShare f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_k L tV (Memref.isWhole_whole _) iV (Memref.isWhole_whole _) oV (Memref.isWhole_whole _) shV (Memref.isWhole_whole _) idxV (Memref.isWhole_whole _)
            rowsV (Memref.isWhole_whole _) cc1_scratch3 cc1_scratch4 cc1_scoped0 cc1_scoped1)
          fun _ => iprop(((opsOut tb ix d (cL L) (jL L) ∗ semVal (bcell d (cV L) (jV L)) 0) ∗ shLoc d (cV L) ↦{share16 (jL L)} tb d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_k_eq_skeleton]; unfold cc1_k_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Ht, Hi, %fo, Ho⟩, %fsh, Hsh⟩, ⟨⟨%fi, Hidx⟩, ⟨%fr, Hr⟩, Hbufs⟩, ⟨HsemA, HsemG, HsemB, HsemC, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRow (F := F) d _ _).symm) $$ Ht
  ihave Hi' := (Entails.of_eq (pts_iRow (F := F) d L _).symm) $$ Hi
  ihave Ho' := (Entails.of_eq (pts_oRow (F := F) d L _).symm) $$ Ho
  ihave Hsh' := (Entails.of_eq (pts_shRow (F := F) d L _).symm) $$ Hsh
  ihave Hidx' := (show ((V d (cV L) (jV L)).loc cc1_scratch1 ↦{fullShare} fi : sProp 𝕄) ⊢ idxV.view.loc (V d (cV L) (jV L)) ↦{fullShare} fi from BI.Entails.refl _) $$ Hidx
  ihave Hr' := (show ((V d (cV L) (jV L)).loc cc1_scratch2 ↦{fullShare} fr : sProp 𝕄) ⊢ rowsV.view.loc (V d (cV L) (jV L)) ↦{fullShare} fr from BI.Entails.refl _) $$ Hr
  -- its band of the codebook and its two rows of indices, each waited for
  sl_exec
  unfold tile_body.sl.dma0 tile_body.sl.dma0_1
  ihave Hsh := (Entails.of_eq (pointsTo_congr (band_filled tb d L fsh))) $$ Hsh'
  ihave Hsh := (Entails.of_eq (pts_shRow (F := F) d L _)) $$ Hsh
  -- the barrier: the band handed over, a share of all sixteen received
  ihave Hpays := (pays_intro tb d L) $$ Hsh
  rw [bind_assoc]
  iapply (SparseCore.wp_subcoreBarrier 𝒱₀ none EB (bRd tb) d (sc := cV L) (i := jV L) sc_bar0 (grid1.bound 1) hsub1 (L 1) rfl κ (fun _ => 0) (jV L).val
      (fun j => bRd_mem₀ tb d _ _ _) (fun _ => rfl) (bRd_expect tb d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd tb) (g := bcell d (cV L) (jV L)) (Set.mem_univ (κ _)) (fun h => h) (bRd_duties_succ tb _)) $$ [Hat] with Hbar
  · isplitr
    · iapply (SparseCore.ent (bigSep_elim (Φ := fun j : Fin (grid1.bound 1) =>
        (cellInv EB (bRd tb) (κ (bcell d (cV L) (j.castLE hsub1))) (bcell d (cV L) (j.castLE hsub1)) : sProp 𝕄)) (Finset.mem_univ (L 1)))); iexact Hinv
    · iexact Hat
  ihave Hgot := (pays_elim tb d L) $$ Hgot
  -- the two gathers, as one batch of 256 row transfers
  ihave Hgot := (Entails.of_eq (sh_halves (F := F) d L _)) $$ Hgot
  icases Hgot with ⟨HsA, HsB⟩
  ihave Hr := (Entails.of_eq (rows_halves (F := F) d L _)) $$ Hr'
  icases Hr with ⟨HrA, HrB⟩
  ihave Hx := (Entails.of_eq ((congrArg (fun f => (idxV.view.loc (V d (cV L) (jV L)) ↦{fullShare} f : sProp 𝕄)) (show View.write (Elt F) idxV.view fi (ReadAs.same.apply ((iRow L).view.read (Elt F) (ix d))) Finset.univ = idxW ix d L from View.write_whole_univ cc1_scratch1 fi _)).trans
    (idx_halves (F := F) d L (idxW ix d L)))) $$ Hidx'
  icases Hx with ⟨HxA, HxB⟩
  haveI := landD_storable tb d L hix fr
  imod (Transfers.batch_alloc' countersEmb (c := V d (cV L) (jV L)) (default : HIx 1) rowCredit (landD tb d L hix fr) (sm := .dma cc1_scratch4.sem) (E := Set.univ)) $$ HsemG with HB
  dsimp -proj only
  rw [bind_assoc]
  iapply (wp_gatherIntoBatch (V d (cV L) (jV L)) countersEmb 𝒱₀ none (src := shAll) (dst := rowsA) (offs := idxA) (q := shareG L 0) (qo := fullShare) (fs := tb d) (fd := fr) (fo := idxW ix d L)
    (default : HIx 1) rowCredit rowCredit_A (by decide) (hinA d L hix)
    (D := landD tb d L hix fr) 0 0 (show 0 + 128 ≤ 128 + 128 by omega) (Nat.zero_le _) (landD_A tb d L hix fr)) $$ [HsA HrA HxA HB]
  · isplitl [HsA]; · iexact HsA
    isplitl [HrA]; · iexact HrA
    isplitl [HxA]; · iexact HxA
    iexact HB
  iintro HB
  rw [bind_assoc]
  iapply (wp_gatherIntoBatch (V d (cV L) (jV L)) countersEmb 𝒱₀ none (src := shAll) (dst := rowsB) (offs := idxB) (q := shareG L 1) (qo := fullShare) (fs := tb d) (fd := fr) (fo := idxW ix d L)
    (default : HIx 1) rowCredit rowCredit_B (by decide) (hinB d L hix)
    (D := landD tb d L hix fr) 128 0 (show 128 + 128 ≤ 128 + 128 by omega) (Nat.zero_le _) (landD_B tb d L hix fr)) $$ [HsB HrB HxB HB]
  · isplitl [HsB]; · iexact HsB
    isplitl [HrB]; · iexact HrB
    isplitl [HxB]; · iexact HxB
    iexact HB
  iintro HB
  rw [pure_bind]
  -- the two waits: the first learns nothing, the second has every row of both
  unfold SparseCore.waitIndirectGather
  iapply (Transfers.wp_waitBatchMulO countersEmb 𝒱₀ (V d (cV L) (jV L)) none (default : HIx 1) 128 credit_A (D := landD tb d L hix fr) (j := 128 + 128) (u := 0)
    (show 0 + 128 * rowCredit ≤ rowCredit * (128 + 128) by omega)) $$ [HB HO]
  · isplitl [HB]; · iexact HB
    isplitl [HO]; · iexact HO
    iapply (Transfers.MayWaits.elim (SemLoc.dma cc1_scratch4.sem)); iexact Hmw2
  iintro ⟨HB, HO⟩
  iapply (Transfers.wp_waitBatchAllO countersEmb 𝒱₀ (V d (cV L) (jV L)) none (default : HIx 1) credit_B rowCredit_pos (D := landD tb d L hix fr) (u := 0 + 128 * rowCredit)
    (show 0 + 128 * rowCredit + 128 * rowCredit = rowCredit * (128 + 128) by omega)) $$ [HB HO]
  · isplitl [HB]; · iexact HB
    isplitl [HO]; · iexact HO
    iapply (Transfers.MayWaits.elim (SemLoc.dma cc1_scratch4.sem)); iexact Hmw2
  iintro ⟨HD, HsemG, HO⟩
  ihave HD := (family_two_runs (landD tb d L hix fr)) $$ HD
  icases HD with ⟨HDA, HDB⟩
  ihave HDA := (landD_rowsA tb d L hix fr) $$ HDA
  ihave HDB := (landD_rowsB tb d L hix fr) $$ HDB
  icases HDA with ⟨HrA, HxA, HsA⟩
  icases HDB with ⟨HrB, HxB, HsB⟩
  ihave Hr' := (Entails.of_eq (rows_halves (F := F) d L (rowsW tb ix d L)).symm) $$ [HrA HrB]
  · isplitl [HrA] <;> iassumption
  ihave Hidx := (Entails.of_eq (idx_halves (F := F) d L (idxW ix d L)).symm) $$ [HxA HxB]
  · isplitl [HxA] <;> iassumption
  ihave Hgot := (Entails.of_eq (sh_halves (F := F) d L (tb d)).symm) $$ [HsA HsB]
  · isplitl [HsA] <;> iassumption
  -- its result rows out, and the wait
  dsimp -proj only [Prog.bind]
  sl_exec
  sl_step
  isplitl [Ht' Hi' Ho' Hbar Hgot]
  · isplitr [Hgot]; swap; · iexact Hgot
    isplitr [Hbar]; swap; · iexact Hbar
    isplitl [Ht']; · iapply (Entails.of_eq (pts_tRow (F := F) d _ _)); iexact Ht'
    isplitl [Hi']; · iapply (Entails.of_eq (pts_iRow (F := F) d L _)); iexact Hi'
    iapply (Entails.of_eq (pts_oRow (F := F) d L _))
    iapply (Entails.of_eq (pointsTo_congr (rows_out tb ix d L _))); iexact Ho'
  isplitl [Hidx Hr' Hbufs]
  · isplitl [Hidx]; · iexists _; iexact Hidx
    isplitl [Hr']; · iexists _; iexact Hr'
    iexact Hbufs
  isplitl [HsemA HsemG HsemB HsemC Hsems]
  · isplitl [HsemA]; · iexact HsemA
    isplitl [HsemG]; · iexact HsemG
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _) shV (Memref.isWhole_whole _) idxV (Memref.isWhole_whole _)
          rowsV (Memref.isWhole_whole _) cc1_scratch3 cc1_scratch4 cc1_scoped0 cc1_scoped1) ⟨⟩ c s := rfl

variable {ix} in
set_option maxRecDepth 16384 in
theorem tileObl (hF : (K (F := F)).Facts) (hix : ∀ d x, (ix d x).toNat < 8192) : (K (F := F)).TileObl (D (F := F)) 𝒱 (P tb ix) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body tb ix d (coordsV ⟨_, hci.1⟩ ⟨_, hci.2⟩) hF hix O W hO hOlev

end Cert.Proof.Sc

end
-- ==== Proof.TcBody.lean ====
/-
  The TensorCore kernel's body as a short program.

  The body compares the distances of 8192 codebook rows, eight rows at a time, in 1024 unrolled steps over eight loaded
  chunks of 1024 rows. Here those steps are one recursion (`accD`, `accT`) per chunk, the chunks one recursion (`chunkD`,
  `chunkT`), and `body_eq` says that the body is: load the operands and the eight chunks, then store the row numbers
  `rowOut` computes of the two accumulators.
-/
module

public import proofs.«01_k».proof.Proof.Gen.KernelIdeal

@[expose] public section

noncomputable section

namespace Cert.Proof.Tc

open Cert.KernelIdeal Cert.KernelIdeal.Gen
open Idealize.ShloMosaic Idealize.SL.Sem

universe v
variable {F : FTy → Type} [FloatOps F]

/-! ## Running a part of a program -/

/-- A part that returns `a` without effects. -/
theorem seq_ret {E : Type → Type v} {α β : Type} {p : Prog E α} {a : α} {f : α → Prog E β} {R : Prog E β}
    (h : p = Prog.ret a) (k : f a = R) : (p >>= f) = R := by
  subst h; exact k

/-- A part of one effect whose return is a function of the response. -/
theorem seq_op {E : Type → Type v} {α β γ : Type} {p : Prog E α} {e : E γ} {c : γ → α} {f : α → Prog E β} {R : γ → Prog E β}
    (h : p = Prog.op e (fun x => Prog.ret (c x))) (k : ∀ x, f (c x) = R x) : (p >>= f) = Prog.op e R := by
  subst h; exact congrArg (Prog.op e) (funext k)

/-- A part of four effects. -/
theorem seq_op4 {E : Type → Type v} {α β γ₁ γ₂ γ₃ γ₄ : Type} {p : Prog E α} {e₁ : E γ₁} {e₂ : E γ₂} {e₃ : E γ₃} {e₄ : E γ₄}
    {c : γ₁ → γ₂ → γ₃ → γ₄ → α} {f : α → Prog E β} {R : γ₁ → γ₂ → γ₃ → γ₄ → Prog E β}
    (h : p = Prog.op e₁ fun x₁ => Prog.op e₂ fun x₂ => Prog.op e₃ fun x₃ => Prog.op e₄ fun x₄ => Prog.ret (c x₁ x₂ x₃ x₄))
    (k : ∀ x₁ x₂ x₃ x₄, f (c x₁ x₂ x₃ x₄) = R x₁ x₂ x₃ x₄) :
    (p >>= f) = Prog.op e₁ fun x₁ => Prog.op e₂ fun x₂ => Prog.op e₃ fun x₃ => Prog.op e₄ fun x₄ => R x₁ x₂ x₃ x₄ := by
  subst h
  exact congrArg (Prog.op e₁) (funext fun x₁ => congrArg (Prog.op e₂) (funext fun x₂ => congrArg (Prog.op e₃) (funext fun x₃ =>
    congrArg (Prog.op e₄) (funext fun x₄ => k x₁ x₂ x₃ x₄))))

/-! ## The steps -/

/-- The distances of eight codebook rows to every pixel: rows `o … o + 7` of a chunk whose scaled products are `S` and whose
    squared lengths are `C`, the pixels' squared lengths `n2`. -/
def dist (n2 : FVec F S1x1024 .f32) (S : FVec F S1024x1024 .f32) (C : FVec F S1024x1 .f32) (o : ℕ) : FVec F S8x1024 .f32 :=
  if h : S1024x1024.Slices ![o, 0] S8x1024 ∧ S1024x1.Slices ![o, 0] S8x1 then
    addf (addf (broadcastTo S8x1024 n2 broadcasts_S1x1024_S8x1024)
      (broadcastTo S8x1024 (extractStridedSlice S8x1 ![o, 0] C h.2) broadcasts_S8x1_S8x1024)) (extractStridedSlice S8x1024 ![o, 0] S h.1)
  else constant S8x1024 .f32 0#32

theorem dist_fold (n2 : FVec F S1x1024 .f32) (S : FVec F S1024x1024 .f32) (C : FVec F S1024x1 .f32) (o : ℕ)
    (h₁ : S1x1024.Broadcasts S8x1024) (h₂ : S8x1.Broadcasts S8x1024) (h₃ : S1024x1.Slices ![o, 0] S8x1) (h₄ : S1024x1024.Slices ![o, 0] S8x1024) :
    addf (addf (broadcastTo S8x1024 n2 h₁) (broadcastTo S8x1024 (extractStridedSlice S8x1 ![o, 0] C h₃) h₂)) (extractStridedSlice S8x1024 ![o, 0] S h₄)
      = dist n2 S C o := by
  unfold dist; rw [dif_pos ⟨h₄, h₃⟩]

/-- The least distances after `t` steps over a chunk, from `d₀`. -/
def accD (n2 : FVec F S1x1024 .f32) (S : FVec F S1024x1024 .f32) (C : FVec F S1024x1 .f32) (d₀ : FVec F S8x1024 .f32) : ℕ → FVec F S8x1024 .f32
  | 0 => d₀
  | t + 1 => select (cmpf .olt (dist n2 S C (8 * t)) (accD n2 S C d₀ t)) (dist n2 S C (8 * t)) (accD n2 S C d₀ t)

/-- The step at which each least distance was met, after `t` steps over a chunk whose first step is number `b`, from `t₀`. -/
def accT (n2 : FVec F S1x1024 .f32) (S : FVec F S1024x1024 .f32) (C : FVec F S1024x1 .f32) (d₀ : FVec F S8x1024 .f32) (b : BitVec 32) (t₀ : IVec S8x1024 32) :
    ℕ → IVec S8x1024 32
  | 0 => t₀
  | t + 1 => select (cmpf .olt (dist n2 S C (8 * t)) (accD n2 S C d₀ t)) (broadcast S8x1024 (b + BitVec.ofNat 32 t)) (accT n2 S C d₀ b t₀ t)

variable (n2 : FVec F S1x1024 .f32) (S : FVec F S1024x1024 .f32) (C : FVec F S1024x1 .f32) (d₀ : FVec F S8x1024 .f32) (b c : BitVec 32)
  (t₀ : IVec S8x1024 32) (t o : ℕ)

theorem accD_first : select (cmpf .olt (dist n2 S C 0) d₀) (dist n2 S C 0) d₀ = accD n2 S C d₀ 1 := rfl

theorem accT_first : select (cmpf .olt (dist n2 S C 0) d₀) (broadcast S8x1024 b) t₀ = accT n2 S C d₀ b t₀ 1 := by
  unfold accT; rw [show b + BitVec.ofNat 32 0 = b by simp]; rfl

theorem accD_fold (h : o = 8 * t) :
    select (cmpf .olt (dist n2 S C o) (accD n2 S C d₀ t)) (dist n2 S C o) (accD n2 S C d₀ t) = accD n2 S C d₀ (t + 1) := by
  subst h; rfl

theorem accT_fold (h : o = 8 * t) (hc : c = b + BitVec.ofNat 32 t) :
    select (cmpf .olt (dist n2 S C o) (accD n2 S C d₀ t)) (broadcast S8x1024 c) (accT n2 S C d₀ b t₀ t) = accT n2 S C d₀ b t₀ (t + 1) := by
  subst h; subst hc; rfl

/-! ## The chunks -/

/-- The convolution at one image's pixels, with its bias. -/
def qV (x : Vec F S1x64x1024 .f32) (w : Vec F S64x64 .f32) (β : Vec F S64x1 .f32) : FVec F S64x1024 .f32 :=
  addf (matmul dot_S64x64_S64x1024_S64x1024_1_0_0_1_n_n none w (shapeCast S64x1024 x shapeCasts_S1x64x1024_S64x1024) (constant S64x1024 .f32 0x00000000#32))
    (broadcastTo S64x1024 (shapeCast S64x1 β shapeCasts_S64x1_S64x1) broadcasts_S64x1_S64x1024)

/-- The convolution divided by its length at each pixel. -/
def fnV (q : FVec F S64x1024 .f32) : FVec F S64x1024 .f32 :=
  divf q (broadcastTo S64x1024 (maximumf (sqrt (shapeCast S1x1024 (multiReduction .add [0] S1024 (mulf q q) 0x00000000#32 reduces_S64x1024_S1024 (.inl rfl) rfl)
    shapeCasts_S1024_S1x1024)) (broadcast S1x1024 (Scalar.ofBits .f32 0x2B8CBCCC#32))) broadcasts_S1x1024_S64x1024)

/-- The squared lengths of the normalised pixels. -/
def n2V (f : FVec F S64x1024 .f32) : FVec F S1x1024 .f32 :=
  shapeCast S1x1024 (multiReduction .add [0] S1024 (mulf f f) 0x00000000#32 reduces_S64x1024_S1024 (.inl rfl) rfl) shapeCasts_S1024_S1x1024

/-- The normalised pixels times `-2`. -/
def m2V (f : FVec F S64x1024 .f32) : FVec F S64x1024 .f32 := mulf f (broadcast S64x1024 (Scalar.ofBits .f32 0xC0000000#32))

/-- A chunk's products with the scaled pixels, and its rows' squared lengths. -/
def sV (f2 : FVec F S64x1024 .f32) (cb : Vec F S1024x64 .f32) : FVec F S1024x1024 .f32 :=
  matmul dot_S1024x64_S64x1024_S1024x1024_1_0_0_1_n_n none cb f2 (constant S1024x1024 .f32 0x00000000#32)
def cV (cb : Vec F S1024x64 .f32) : FVec F S1024x1 .f32 :=
  shapeCast S1024x1 (multiReduction .add [1] S1024 (mulf cb cb) 0x00000000#32 reduces_S1024x64_S1024 (.inl rfl) rfl) shapeCasts_S1024_S1024x1

theorem sV_fold (f2 : FVec F S64x1024 .f32) (cb : Vec F S1024x64 .f32) :
    matmul dot_S1024x64_S64x1024_S1024x1024_1_0_0_1_n_n none cb f2 (constant S1024x1024 .f32 0x00000000#32) = sV f2 cb := rfl
/-- The accumulators after `n` chunks. -/
def chunkD (f : FVec F S64x1024 .f32) (cb : ℕ → Vec F S1024x64 .f32) : ℕ → FVec F S8x1024 .f32
  | 0 => broadcast S8x1024 (Scalar.ofBits .f32 0x7F800000#32)
  | n + 1 => accD (n2V f) (sV (m2V f) (cb n)) (cV (cb n)) (chunkD f cb n) 128
def chunkT (f : FVec F S64x1024 .f32) (cb : ℕ → Vec F S1024x64 .f32) : ℕ → IVec S8x1024 32
  | 0 => broadcast S8x1024 0#32
  | n + 1 => accT (n2V f) (sV (m2V f) (cb n)) (cV (cb n)) (chunkD f cb n) (BitVec.ofNat 32 (128 * n)) (chunkT f cb n) 128

/-! ## The tournament over the eight rows of the accumulators -/

/-- Where the lower half wins. -/
def wins {s : Shape} (va vb : FVec F s .f32) (ra rb : IVec s 32) : IVec s 1 :=
  ori (cmpf .olt vb va) (andi (cmpf .oeq vb va) (cmpi .slt rb ra))

/-- The row numbers of the least distances among the eight accumulator rows, the smaller number at a tie. -/
def rowOut (v : FVec F S8x1024 .f32) (t : IVec S8x1024 32) : IVec S1x1x1024 32 :=
  let r := addi (muli t (broadcast S8x1024 8#32)) (iota .tc S8x1024 32 [0] iota_S8x1024_d0_w32)
  let va := extractStridedSlice S4x1024 ![0, 0] v slices_S8x1024_o0_0_S4x1024
  let vb := extractStridedSlice S4x1024 ![4, 0] v slices_S8x1024_o4_0_S4x1024
  let ra := extractStridedSlice S4x1024 ![0, 0] r slices_S8x1024_o0_0_S4x1024
  let rb := extractStridedSlice S4x1024 ![4, 0] r slices_S8x1024_o4_0_S4x1024
  let v := select (wins va vb ra rb) vb va
  let r := select (wins va vb ra rb) rb ra
  let va := extractStridedSlice S2x1024 ![0, 0] v slices_S4x1024_o0_0_S2x1024
  let vb := extractStridedSlice S2x1024 ![2, 0] v slices_S4x1024_o2_0_S2x1024
  let ra := extractStridedSlice S2x1024 ![0, 0] r slices_S4x1024_o0_0_S2x1024
  let rb := extractStridedSlice S2x1024 ![2, 0] r slices_S4x1024_o2_0_S2x1024
  let v := select (wins va vb ra rb) vb va
  let r := select (wins va vb ra rb) rb ra
  let va := extractStridedSlice S1x1024 ![0, 0] v slices_S2x1024_o0_0_S1x1024
  let vb := extractStridedSlice S1x1024 ![1, 0] v slices_S2x1024_o1_0_S1x1024
  let ra := extractStridedSlice S1x1024 ![0, 0] r slices_S2x1024_o0_0_S1x1024
  let rb := extractStridedSlice S1x1024 ![1, 0] r slices_S2x1024_o1_0_S1x1024
  shapeCast S1x1x1024 (shapeCast S1024 (select (wins va vb ra rb) rb ra) shapeCasts_S1x1024_S1024) shapeCasts_S1024_S1x1x1024

/-- What the body stores, of its operands and the eight chunks. -/
def outV (x : Vec F S1x64x1024 .f32) (w : Vec F S64x64 .f32) (β : Vec F S64x1 .f32) (cb : ℕ → Vec F S1024x64 .f32) : IVec S1x1x1024 32 :=
  rowOut (chunkD (fnV (qV x w β)) cb 8) (chunkT (fnV (qV x w β)) cb 8)

/-! ## The body -/

/-- Eight chunks as a function of the chunk's number. -/
def of8 {α : Type} (a₀ a₁ a₂ a₃ a₄ a₅ a₆ a₇ : α) : ℕ → α
  | 0 => a₀ | 1 => a₁ | 2 => a₂ | 3 => a₃ | 4 => a₄ | 5 => a₅ | 6 => a₆ | _ => a₇

variable (i : grid0.Coords) (arg1 : Memref sig .tc .vmem S1x64x1024 .f32) (harg1 : arg1.IsWhole) (arg2 : Memref sig .tc .vmem S64x64 .f32) (harg2 : arg2.IsWhole)
  (arg3 : Memref sig .tc .vmem S64x1 .f32) (harg3 : arg3.IsWhole) (arg4 : Memref sig .tc .vmem S8192x64 .f32) (harg4 : arg4.IsWhole)
  (arg5 : Memref sig .tc .vmem S1x1x1024 .i32) (harg5 : arg5.IsWhole)

set_option maxRecDepth 65536 in
set_option maxHeartbeats 4000000 in
/-- The body is its loads, and the store of `outV` of what they read. -/
theorem body_eq :
    cc0__argmin_body (F := F) i arg1 harg1 arg2 harg2 arg3 harg3 arg4 harg4 arg5 harg5
      = Prog.op (.load arg1 (Rect.unit (s := S1x64x1024) ![0, 0, 0] S1x64x1024.size inb_S1x64x1024_S1x64x1024_0_0_0).toLoadRect (View.loadsAt_vmem h_S1x64x1024)) fun x =>
        Prog.op (.load arg2 (Rect.unit (s := S64x64) ![0, 0] S64x64.size inb_S64x64_S64x64_0_0).toLoadRect (View.loadsAt_vmem h_S64x64)) fun w =>
        Prog.op (.load arg3 (Rect.unit (s := S64x1) ![0, 0] S64x1.size inb_S64x1_S64x1_0_0).toLoadRect (View.loadsAt_vmem h_S64x1)) fun β =>
        Prog.op (.load arg4 (Rect.unit (s := S8192x64) ![0, 0] S1024x64.size inb_S8192x64_S1024x64_0_0).toLoadRect (View.loadsAt_vmem h_S1024x64)) fun a₀ =>
        Prog.op (.load arg4 (Rect.unit (s := S8192x64) ![1024, 0] S1024x64.size inb_S8192x64_S1024x64_1024_0).toLoadRect (View.loadsAt_vmem h_S1024x64)) fun a₁ =>
        Prog.op (.load arg4 (Rect.unit (s := S8192x64) ![2048, 0] S1024x64.size inb_S8192x64_S1024x64_2048_0).toLoadRect (View.loadsAt_vmem h_S1024x64)) fun a₂ =>
        Prog.op (.load arg4 (Rect.unit (s := S8192x64) ![3072, 0] S1024x64.size inb_S8192x64_S1024x64_3072_0).toLoadRect (View.loadsAt_vmem h_S1024x64)) fun a₃ =>
        Prog.op (.load arg4 (Rect.unit (s := S8192x64) ![4096, 0] S1024x64.size inb_S8192x64_S1024x64_4096_0).toLoadRect (View.loadsAt_vmem h_S1024x64)) fun a₄ =>
        Prog.op (.load arg4 (Rect.unit (s := S8192x64) ![5120, 0] S1024x64.size inb_S8192x64_S1024x64_5120_0).toLoadRect (View.loadsAt_vmem h_S1024x64)) fun a₅ =>
        Prog.op (.load arg4 (Rect.unit (s := S8192x64) ![6144, 0] S1024x64.size inb_S8192x64_S1024x64_6144_0).toLoadRect (View.loadsAt_vmem h_S1024x64)) fun a₆ =>
        Prog.op (.load arg4 (Rect.unit (s := S8192x64) ![7168, 0] S1024x64.size inb_S8192x64_S1024x64_7168_0).toLoadRect (View.loadsAt_vmem h_S1024x64)) fun a₇ =>
        Prog.op (.load arg5 (Rect.unit (s := S1x1x1024) ![0, 0, 0] S1x1x1024.size inb_S1x1x1024_S1x1x1024_0_0_0).toLoadRect (View.loadsAt_vmem h_S1x1x1024)) fun _ =>
        Prog.op (.store arg5 (Rect.unit (s := S1x1x1024) ![0, 0, 0] S1x1x1024.size inb_S1x1x1024_S1x1x1024_0_0_0) (outV x w β (of8 a₀ a₁ a₂ a₃ a₄ a₅ a₆ a₇)) Finset.univ
          (View.stores_vmem_bits_univ h_S1x1x1024 rfl) (.inl rfl)) fun _ => Prog.ret ⟨⟩ := by
  unfold cc0__argmin_body k0_part191 k0_part192 k0_part193
  refine (Prog.bind_assoc _ _ _).trans ?_
  apply seq_op4 (c := fun x w β a₀ => have f := fnV (qV x w β); ⟨n2V f, m2V f, sV (m2V f) a₀, cV a₀,
    accD (n2V f) (sV (m2V f) a₀) (cV a₀) (broadcast S8x1024 (Scalar.ofBits .f32 0x7F800000#32)) 1,
    accT (n2V f) (sV (m2V f) a₀) (cV a₀) (broadcast S8x1024 (Scalar.ofBits .f32 0x7F800000#32)) 0#32 (broadcast S8x1024 0#32) 1,
    extractStridedSlice S8x1024 ![8, 0] (sV (m2V f) a₀) slices_S1024x1024_o8_0_S8x1024, extractStridedSlice S8x1 ![8, 0] (cV a₀) slices_S1024x1_o8_0_S8x1⟩)
  · simp only [← accD_first, ← accT_first, ← dist_fold _ _ _ 0 broadcasts_S1x1024_S8x1024 broadcasts_S8x1_S8x1024 slices_S1024x1_o0_0_S8x1 slices_S1024x1024_o0_0_S8x1024]
    rfl
  intro x w β a₀
  unfold outV
  dsimp only
  generalize fnV (qV x w β) = f
  repeat
    try with_reducible refine (Prog.bind_assoc _ _ _).trans ?_
    first
    | apply seq_ret
      focus exact rfl
    | apply seq_op
      focus exact rfl
      intro a
    simp only [sV_fold, dist_fold, accD_first, accT_first, accD_fold, accT_fold, Nat.reduceAdd, Nat.reduceMul, BitVec.reduceAdd, BitVec.ofNat_eq_ofNat]
  refine congrArg (Prog.op _) (funext fun _ => ?_)
  rfl

end Cert.Proof.Tc

end
-- ==== Proof.TcStep.lean ====
/-
  One grid point of the TensorCore kernel, run: from the five staging buffers owned at some contents, the body leaves the four
  operands as they were and the result's buffer at the row numbers `outV` computes of them.
-/
module

public import proofs.«01_k».proof.Proof.ScSetup
public import proofs.«01_k».proof.Proof.TcBody
public import Idealize.ShloMosaic.Lib.LaneScatter.Own
public import Idealize.ShloMosaic.Lib.VecWindow

@[expose] public section

noncomputable section

namespace Cert.Proof.Tc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Sc (UU)

variable {F : FTy → Type} [FloatOps F]

local notation "𝕄" => MT nD τ sig (HIx 1) (Elt F) ℕ UU ℕ

/-! ## The codebook in chunks -/

/-- Chunk `n` of the codebook: rows `1024 n … 1024 n + 1023` (row numbers past the end wrap, and are never met). -/
def chunks (cb : Vec F S8192x64 .f32) (n : ℕ) : Vec F S1024x64 .f32 := fun j =>
  cb fun | 0 => ⟨(1024 * n + (j 0).val) % 8192, Nat.mod_lt _ (by decide)⟩ | 1 => ⟨(j 1).val, (j 1).isLt⟩

/-- The accumulators after `k` chunks depend on those chunks only. -/
theorem chunkD_congr (f : Vec F S64x1024 .f32) {cb cb' : ℕ → Vec F S1024x64 .f32} :
    ∀ k : ℕ, (∀ n < k, cb n = cb' n) → chunkD f cb k = chunkD f cb' k ∧ chunkT f cb k = chunkT f cb' k
  | 0, _ => ⟨rfl, rfl⟩
  | k + 1, h => by
    obtain ⟨hd, ht⟩ := chunkD_congr f k fun n hn => h n (Nat.lt_succ_of_lt hn)
    constructor <;> simp only [chunkD, chunkT, hd, ht, h k (Nat.lt_succ_self k)]

/-- The row numbers stored depend on the first eight chunks only. -/
theorem outV_congr {x x' : Vec F S1x64x1024 .f32} {w w' : Vec F S64x64 .f32} {β β' : Vec F S64x1 .f32} {cb cb' : ℕ → Vec F S1024x64 .f32}
    (hx : x = x') (hw : w = w') (hβ : β = β') (hc : ∀ n < 8, cb n = cb' n) : outV x w β cb = outV x' w' β' cb' := by
  subst hx; subst hw; subst hβ
  unfold outV
  obtain ⟨hd, ht⟩ := chunkD_congr (fnV (qV x w β)) 8 hc
  rw [hd, ht]

/-- The thousand rows loaded from row `1024 n` on are chunk `n`. -/
theorem chunk_at (cb : Vec F S8192x64 .f32) (n : ℕ) (hn : n < 8) (off : Fin 2 → ℕ) (ho : off = ![1024 * n, 0])
    (inb : ∀ a, off a + S1024x64.size a ≤ S8192x64.size a) :
    (fun j => cb ((Rect.unit (s := S8192x64) off S1024x64.size inb).emb j)) = chunks cb n := by
  subst ho
  funext j
  unfold chunks
  refine congrArg cb (funext fun a => Fin.ext ?_)
  have h0 : (j 0).val < 1024 := (j 0).isLt
  match a with
  | ⟨0, _⟩ => show 1024 * n + 1 * (j 0).val = (1024 * n + (j 0).val) % 8192; omega
  | ⟨1, _⟩ => show 0 + 1 * (j 1).val = (j 1).val; omega

/-- A buffer wholly written through a view reads back what was written. -/
theorem read_whole_write {κ : Kind} {sp : Space} {s : Shape} {e : EltTy} (v : View sig κ sp s e) (f : v.ty.Contents (Elt F)) {off : Fin s.rank → ℕ}
    (inb : ∀ a, off a + s.size a ≤ s.size a) (X : s.Idx → Elt F e) :
    v.read (Elt F) (v.writes (Elt F) f [⟨Rect.unit off s.size inb, X⟩]) = X := by
  funext y
  have h := View.read_writes_cons_emb v f (Rect.unit off s.size inb) X [] y
  rwa [Rect.emb_unit_full] at h

/-! ## The body -/

variable (i : grid0.Coords) (arg1 : Memref sig .tc .vmem S1x64x1024 .f32) (harg1 : arg1.IsWhole) (arg2 : Memref sig .tc .vmem S64x64 .f32) (harg2 : arg2.IsWhole)
  (arg3 : Memref sig .tc .vmem S64x1 .f32) (harg3 : arg3.IsWhole) (arg4 : Memref sig .tc .vmem S8192x64 .f32) (harg4 : arg4.IsWhole)
  (arg5 : Memref sig .tc .vmem S1x1x1024 .i32) (harg5 : arg5.IsWhole)

/-- THE BODY, RUN: from the five staging buffers held at any contents, it returns with the four operands unchanged and the
    result's buffer holding the row numbers of the nearest codebook rows, `outV`. -/
theorem step (c : Dev nD) (x : Vec F S1x64x1024 .f32) (w : Vec F S64x64 .f32) (β : Vec F S64x1 .f32) (cb : Vec F S8192x64 .f32) (o : Vec F S1x1x1024 .i32)
    (E : Set ℕ) (Q : PUnit → sProp 𝕄) :
    iprop(owns (c : Thread nD τ) arg1 fullShare x ∗ owns (c : Thread nD τ) arg2 fullShare w ∗ owns (c : Thread nD τ) arg3 fullShare β
        ∗ owns (c : Thread nD τ) arg4 fullShare cb ∗ owns (c : Thread nD τ) arg5 fullShare o
        ∗ (iprop(owns (c : Thread nD τ) arg1 fullShare x ∗ owns (c : Thread nD τ) arg2 fullShare w ∗ owns (c : Thread nD τ) arg3 fullShare β
            ∗ owns (c : Thread nD τ) arg4 fullShare cb ∗ owns (c : Thread nD τ) arg5 fullShare (outV x w β (chunks cb))) -∗ Q ⟨⟩))
      ⊢ wp frame (wpE (defs₀ (F := F)) Variants.none (c : Thread nD τ) none) E
          (cc0__argmin_body i arg1 harg1 arg2 harg2 arg3 harg3 arg4 harg4 arg5 harg5) Q := by
  rw [body_eq]
  iintro ⟨H1, H2, H3, H4, H5, Hk⟩
  unfold owns
  icases H1 with ⟨%f1, %e1, H1⟩
  icases H2 with ⟨%f2, %e2, H2⟩
  icases H3 with ⟨%f3, %e3, H3⟩
  icases H4 with ⟨%f4, %e4, H4⟩
  icases H5 with ⟨%f5, %e5, H5⟩
  subst e1; subst e2; subst e3; subst e4
  sl_exec!
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro
  unfold step.sl.H5_1
  rw [read_whole_write]
  refine outV_congr (View.readAt_full _ _ _) (View.readAt_full _ _ _) (View.readAt_full _ _ _) fun n hn => ?_
  interval_cases n
  · exact chunk_at (arg4.view.read (Elt F) f4) 0 (by decide) _ rfl _
  · exact chunk_at (arg4.view.read (Elt F) f4) 1 (by decide) _ rfl _
  · exact chunk_at (arg4.view.read (Elt F) f4) 2 (by decide) _ rfl _
  · exact chunk_at (arg4.view.read (Elt F) f4) 3 (by decide) _ rfl _
  · exact chunk_at (arg4.view.read (Elt F) f4) 4 (by decide) _ rfl _
  · exact chunk_at (arg4.view.read (Elt F) f4) 5 (by decide) _ rfl _
  · exact chunk_at (arg4.view.read (Elt F) f4) 6 (by decide) _ rfl _
  · exact chunk_at (arg4.view.read (Elt F) f4) 7 (by decide) _ rfl _

end Cert.Proof.Tc

end
-- ==== Proof.TcRegion.lean ====
/-
  The TensorCore call of the kernel, run as a region of the host program.

  Eight grid points, one image each. At point `t` the body reads image `t` (all of the weights, the bias and the codebook stay
  in place) and writes the 1024 row numbers of image `t`. Entered with every array of the host program at a valuation `V`, the
  call leaves them at `V` with the row numbers written, `idxV`.

  The TensorCore still owes the two SparseCores their start signals while this call runs: the debt is carried through unchanged,
  and the pipeline's own waits are at index `none`, below every level of that debt.
-/
module

public import proofs.«01_k».proof.Proof.TcStep
public import proofs.«01_k».proof.Proof.Gen.KernelIdeal.Points
public import Idealize.ShloMosaic.Lib.Pipeline.ValueKit.Geometry
public import Idealize.ShloMosaic.Lib.Pipeline.RegionsLoop

@[expose] public section

noncomputable section

namespace Cert.Proof.Tc

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)
open Cert.Proof.Sc (UU K)

variable {F : FTy → Type} [FloatOps F]

local notation "𝕄" => MT nD τ sig (HIx 1) (Elt F) ℕ UU ℕ

/-! ## The row numbers -/

/-- Image `n` of the batch. -/
def imgAt (X : Vec F S8x64x1024 .f32) (n : ℕ) : Vec F S1x64x1024 .f32 := fun j =>
  X fun | 0 => ⟨n % 8, Nat.mod_lt _ (by decide)⟩ | 1 => ⟨(j 1).val, (j 1).isLt⟩ | 2 => ⟨(j 2).val, (j 2).isLt⟩

/-- The row numbers the call writes: those of image `i` at its 1024 places. -/
def idxV (X : Vec F S8x64x1024 .f32) (w : Vec F S64x64 .f32) (β : Vec F S64x1 .f32) (cb : Vec F S8192x64 .f32) : IVec S8x1x1024 32 := fun i =>
  outV (imgAt X (i 0).val) w β (chunks cb) fun | 0 => ⟨0, by decide⟩ | 1 => ⟨0, by decide⟩ | 2 => ⟨(i 2).val, (i 2).isLt⟩

/-! ## The proof data -/

variable (V : (c : Dev nD) → (b : Ref sig .tc) → Buf (Elt F) ((c : Thread nD τ).loc b))

/-- The row numbers of the arrays at `V`. -/
abbrev idxOf (c : Dev nD) : Buf (Elt F) ((c : Thread nD τ).loc main_v2) := idxV (V c main_v0) (V c main_arg1) (V c main_v1) (V c main_arg3)

/-- The call's data on device `c`: the arrays at `V`; at every point the operands' buffers as fetched and the result's buffer at
    the image's row numbers; the start signals owed throughout. -/
def dat (c : Dev nD) : Dat τ (Elt F) (HIx 1) ℕ UU ℕ cfg0 c where
  A w := V c (Pipeline.arrRef spec0 w)
  after w t := match w with
    | ⟨0, _⟩ => imgAt (V c main_v0) t.val
    | ⟨1, _⟩ => V c main_arg1
    | ⟨2, _⟩ => V c main_v1
    | ⟨3, _⟩ => V c main_arg3
    | ⟨4, _⟩ => outV (imgAt (V c main_v0) t.val) (V c main_arg1) (V c main_v1) (chunks (V c main_arg3))
  Φ _ := BI.emp
  q _ := fullShare
  owed _ := (K (F := F)).Otc c 0
  recorded _ := {p | (K (F := F)).lev (SparseCore.T c, p.1) p.2 ≤ 0}

/-- The data of the program's one pipeline. -/
def pdats : (p : Fin 1) → (c : Dev nD) → Dat τ (Elt F) (HIx 1) ℕ UU ℕ (Pipeline.pin (pcfgs (F := F)) (fun p => (cfgs p).toPCfg_adm) p) c
  | ⟨0, _⟩ => fun c => dat V c

/-! ## What the body finds -/

theorem ix0 : ∀ t : Fin cfg0.N, win0_0.index t = ![t.val, 0, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![0, 0] := (by decide +kernel : ∀ t : Fin grid0.N, _)
theorem ix3 : ∀ t : Fin cfg0.N, win0_3.index t = ![0, 0] := (by decide +kernel : ∀ t : Fin grid0.N, _)
theorem ix4 : ∀ t : Fin cfg0.N, win0_4.index t = ![t.val, 0, 0] := (by decide +kernel : ∀ t : Fin grid0.N, _)

/-- The image's block at point `t` is image `t`. -/
theorem blk0 (c : Dev nD) (t : Fin cfg0.N) : (dat V c).blockOf 0 t = imgAt (V c main_v0) t.val := by
  have ht : t.val < 8 := t.isLt
  funext y
  show V c main_v0 ((win0_0.blk t).view.emb y) = _
  refine congrArg (V c main_v0) (funext fun a => Fin.ext ?_)
  have y0 : (y 0).val < 1 := (y 0).isLt
  fin_cases a
  · blk_simp [ix0]; show _ = t.val % 8; omega
  · blk_simp [ix0]; rfl
  · blk_simp [ix0]; rfl

/-- The weights', the bias's and the codebook's blocks are the whole arrays at every point. -/
theorem blk1 (c : Dev nD) (t : Fin cfg0.N) : (dat V c).blockOf 1 t = V c main_arg1 := by
  funext y
  show V c main_arg1 ((win0_1.blk t).view.emb y) = _
  refine congrArg (V c main_arg1) (funext fun a => Fin.ext ?_)
  fin_cases a <;> blk_simp [ix1]
theorem blk2 (c : Dev nD) (t : Fin cfg0.N) : (dat V c).blockOf 2 t = V c main_v1 := by
  funext y
  show V c main_v1 ((win0_2.blk t).view.emb y) = _
  refine congrArg (V c main_v1) (funext fun a => Fin.ext ?_)
  fin_cases a <;> blk_simp [ix2]
theorem blk3 (c : Dev nD) (t : Fin cfg0.N) : (dat V c).blockOf 3 t = V c main_arg3 := by
  funext y
  show V c main_arg3 ((win0_3.blk t).view.emb y) = _
  refine congrArg (V c main_arg3) (funext fun a => Fin.ext ?_)
  fin_cases a <;> blk_simp [ix3]

/-- The image's buffer holds image `t` when the body runs, fetched at that very point. -/
theorem before0 (c : Dev nD) (t : Fin cfg0.N) (d) : (dat V c).before 0 t d = imgAt (V c main_v0) t.val :=
  ((dat V c).before_in_eq_fetched 0 rfl (fun _ => rfl) (fun _ _ _ => rfl) (fun t => (blk0 V c t).symm) t d).trans (blk0 V c t)
theorem before1 (c : Dev nD) (t : Fin cfg0.N) (d) : (dat V c).before 1 t d = V c main_arg1 :=
  ((dat V c).before_in_eq_fetched 1 rfl (fun _ => rfl) (fun _ _ _ => rfl) (fun t => (blk1 V c t).symm) t d).trans (blk1 V c t)
theorem before2 (c : Dev nD) (t : Fin cfg0.N) (d) : (dat V c).before 2 t d = V c main_v1 :=
  ((dat V c).before_in_eq_fetched 2 rfl (fun _ => rfl) (fun _ _ _ => rfl) (fun t => (blk2 V c t).symm) t d).trans (blk2 V c t)
theorem before3 (c : Dev nD) (t : Fin cfg0.N) (d) : (dat V c).before 3 t d = V c main_arg3 :=
  ((dat V c).before_in_eq_fetched 3 rfl (fun _ => rfl) (fun _ _ _ => rfl) (fun t => (blk3 V c t).symm) t d).trans (blk3 V c t)

/-! ## The body at a point -/

/-- THE BODY'S OBLIGATION: at every point, from the operands' buffers as fetched, the body leaves them and the row numbers. -/
theorem body_obligation (c : Dev nD) : BodyObligation (dat V c) (defs₀ (F := F)) Variants.none none Set.univ := fun t => by
  rw [bigSep_W0, bigSep_W0]
  rw [show (dat V c).Φ t.castSucc = BI.emp from rfl, show (dat V c).Φ t.succ = BI.emp from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩⟩
  rw [before0, before1, before2, before3]
  iapply (step (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) c (imgAt (V c main_v0) t.val) (V c main_arg1) (V c main_v1) (V c main_arg3) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## What the call leaves -/

/-- The row numbers written back at point `t` are image `t`'s. -/
theorem final4 (c : Dev nD) : (dat V c).arrAt 4 cfg0.N = idxOf V c := by
  refine (dat V c).arrAt_eq_of_covers 4 (idxOf V c) (by decide +kernel) fun t hf y => ?_
  have ht : t.val < 8 := t.isLt
  have y0 : (y 0).val < 1 := (y 0).isLt
  have y1 : (y 1).val < 1 := (y 1).isLt
  have e0 : ((win0_4.blk t).view.emb y 0).val = t.val := by blk_simp [ix4]
  have e2 : ((win0_4.blk t).view.emb y 2).val = (y 2).val := by blk_simp [ix4]
  blk_simp
  show outV (imgAt (V c main_v0) t.val) (V c main_arg1) (V c main_v1) (chunks (V c main_arg3)) y
    = outV (imgAt (V c main_v0) ((win0_4.blk t).view.emb y 0).val) (V c main_arg1) (V c main_v1) (chunks (V c main_arg3)) _
  rw [e0]
  refine congrArg _ (funext fun a => Fin.ext ?_)
  fin_cases a
  · show (y 0).val = 0; omega
  · show (y 1).val = 0; omega
  · exact e2.symm

/-- No start signal is owed at index `none`. -/
theorem Otc_none (d : Dev nD) (g : GSem nD τ sig) : (K (F := F)).Otc d 0 g (none : HIx 1) = 0 := by
  by_contra h
  have := SparseCore.Cfg.lev_of_Otc_pos (K := K (F := F)) (Nat.pos_of_ne_zero h)
  rw [SparseCore.Cfg.lev_none] at this; omega

/-- The state beside the arrays: the start signals owed, every wait recorded so far below them. -/
abbrev owing (c : Dev nD) : sProp 𝕄 :=
  iprop(∃ W, ⌜(K (F := F)).WBelow (SparseCore.T c) W (0)⌝ ∗ owes (SparseCore.T c) ((K (F := F)).Otc c 0) W)

variable (Vp : (c : Dev nD) → (b : Ref sig .tc) → Buf (Elt F) ((c : Thread nD τ).loc b))

set_option backward.isDefEq.respectTransparency.types false in
/-- THE CALL AS A REGION: from every array at `V` to every array at `Vp`, which has the row numbers and is otherwise `V`. -/
def reg (hVp_out : ∀ c, Vp c main_v2 = idxOf V c) (hVp_ne : ∀ c (b : Ref sig .tc), b ≠ main_v2 → Vp c b = V c b) :
    Pipeline.RegionSeg (pcfgs (F := F)) (fun p => (cfgs p).toPCfg_adm) (pdats V) none defs₀ Variants.none (K (F := F)).L (K (F := F)).lev 0 where
  win := (launch0 ).win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ c fun w s t => (K (F := F)).mayWait_none _ (Otc_none c)
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) (fun p => (cfgs p).toPCfg_adm) (pdats V) launch0.win launch0.arr_whole c
      ((pdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hrest
  hin c := by
    rw [show (pdats V 0 c).Φ 0 = BI.emp from rfl, show Pipeline.scopedRest (pcfgs (F := F) 0).spec c = BI.emp from scopedRest0_eq c]
    iintro ⟨-, -, Hr⟩; iexact Hr
  hout c := by
    rw [Pipeline.ownSems0_none, show (pdats V 0 c).Φ (Fin.last _) = BI.emp from rfl,
      show Pipeline.scopedRest (pcfgs (F := F) 0).spec c = BI.emp from scopedRest0_eq c]
    iintro Hr
    isplitr; · iempintro
    isplitr; · iempintro
    iexact Hr
  hexit c := by
    have hjoin := Pipeline.unscopedBufs_of_arrays (p := 0) (pcfgs (F := F)) (fun p => (cfgs p).toPCfg_adm) (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v0 (by decide)).symm
        · exact ((pdats V 0 c).arrAt_in 1 rfl _).trans (hVp_ne c main_arg1 (by decide)).symm
        · exact ((pdats V 0 c).arrAt_in 2 rfl _).trans (hVp_ne c main_v1 (by decide)).symm
        · exact ((pdats V 0 c).arrAt_in 3 rfl _).trans (hVp_ne c main_arg3 (by decide)).symm
        · exact (final4 V c).trans (hVp_out c).symm)
      (fun b hb => hVp_ne c b fun h => hb (h ▸ Finset.mem_image.mpr ⟨4, Finset.mem_univ _, rfl⟩))
    iintro ⟨Ha, ⟨%W, %hW, HO⟩, -, Hrest⟩
    imodintro
    isplitl [Ha Hrest]
    · iapply hjoin; isplitl [Ha] <;> iassumption
    iexists W; isplitr; swap; (· iexact HO)
    ipureintro
    intro p hp
    rcases hW hp with h | ⟨w, s, rfl⟩
    · exact h
    · rw [SparseCore.Cfg.lev_none]

end Cert.Proof.Tc

end
-- ==== Proof.TcBound.lean ====
/-
  The row numbers the TensorCore kernel writes are below 8192, whatever the distances compared are.

  A step number is recorded only at its own step, so it is below 1024; the row number is eight times that plus the number of the
  accumulator's row; and each round of the tournament keeps one of two row numbers.
-/
module

public import proofs.«01_k».proof.Proof.TcRegion

@[expose] public section

noncomputable section

namespace Cert.Proof.Tc

open Cert.KernelIdeal Cert.KernelIdeal.Gen
open Idealize.ShloMosaic

variable {F : FTy → Type} [FloatOps F]

/-- Every entry of an array of integers is below `n`. -/
def Below {s : Shape} (n : ℕ) (v : IVec s 32) : Prop := ∀ i, (v i).toNat < n

theorem Below.select {s : Shape} {n : ℕ} {a b : IVec s 32} (p : IVec s 1) (ha : Below n a) (hb : Below n b) : Below n (select p a b) := fun i => by
  show (if p i = 1#1 then a i else b i).toNat < n
  split
  · exact ha i
  · exact hb i

theorem Below.slice {s t : Shape} {n : ℕ} {a : IVec s 32} (ha : Below n a) (off : Fin s.rank → ℕ) (h : s.Slices off t) :
    Below n (extractStridedSlice t off a h) := fun _ => ha _

theorem Below.cast {s t : Shape} {n : ℕ} {a : IVec s 32} (ha : Below n a) (h : s.ShapeCasts t) : Below n (shapeCast t a h) := fun _ => ha _

variable (n2 : FVec F S1x1024 .f32) (S : FVec F S1024x1024 .f32) (C : FVec F S1024x1 .f32) (d₀ : FVec F S8x1024 .f32)

/-- The step numbers recorded over a chunk of 128 steps are below the number of the chunk's last step plus one. -/
theorem accT_below (n : ℕ) (hn : n < 8) {t₀ : IVec S8x1024 32} (h₀ : Below 1024 t₀) :
    ∀ t, t ≤ 128 → Below 1024 (accT n2 S C d₀ (BitVec.ofNat 32 (128 * n)) t₀ t)
  | 0, _ => h₀
  | t + 1, ht => by
    refine Below.select _ (fun i => ?_) (accT_below n hn h₀ t (by omega))
    show (BitVec.ofNat 32 (128 * n) + BitVec.ofNat 32 t).toNat < 1024
    rw [← BitVec.ofNat_add, BitVec.toNat_ofNat]
    exact lt_of_le_of_lt (Nat.mod_le _ _) (by omega)

/-- The step numbers recorded are below 1024. -/
theorem chunkT_below (f : FVec F S64x1024 .f32) (cb : ℕ → Vec F S1024x64 .f32) : ∀ n, n ≤ 8 → Below 1024 (chunkT f cb n)
  | 0, _ => fun _ => by show (0#32).toNat < 1024; decide
  | n + 1, hn => accT_below _ _ _ _ n (by omega) (chunkT_below f cb n (by omega)) 128 le_rfl

/-- The row numbers stored are below 8192. -/
theorem rowOut_below (v : FVec F S8x1024 .f32) {t : IVec S8x1024 32} (ht : Below 1024 t) : Below 8192 (rowOut v t) := by
  have hr : Below 8192 (addi (muli t (broadcast S8x1024 8#32)) (iota .tc S8x1024 32 [0] iota_S8x1024_d0_w32)) := fun i => by
    have hi : (i 0).val < 8 := (i 0).isLt
    have hti := ht i
    show (t i * 8#32 + iota .tc S8x1024 32 [0] iota_S8x1024_d0_w32 i).toNat < 8192
    have e : (iota .tc S8x1024 32 [0] iota_S8x1024_d0_w32 i) = BitVec.ofNat 32 (i 0).val := by
      simp [iota]
    rw [e]
    simp only [BitVec.toNat_add, BitVec.toNat_mul, BitVec.toNat_ofNat]
    omega
  unfold rowOut
  have h4 := fun p => Below.select p (hr.slice ![4, 0] slices_S8x1024_o4_0_S4x1024) (hr.slice ![0, 0] slices_S8x1024_o0_0_S4x1024)
  have h2 := fun p q => Below.select q ((h4 p).slice ![2, 0] slices_S4x1024_o2_0_S2x1024) ((h4 p).slice ![0, 0] slices_S4x1024_o0_0_S2x1024)
  exact ((Below.select _ ((h2 _ _).slice ![1, 0] slices_S2x1024_o1_0_S1x1024) ((h2 _ _).slice ![0, 0] slices_S2x1024_o0_0_S1x1024)).cast _).cast _

/-- The row numbers of a batch are below 8192. -/
theorem idxV_below (X : Vec F S8x64x1024 .f32) (w : Vec F S64x64 .f32) (β : Vec F S64x1 .f32) (cb : Vec F S8192x64 .f32) :
    Below 8192 (idxV X w β cb) := fun _ => rowOut_below _ (chunkT_below _ _ 8 le_rfl) _

end Cert.Proof.Tc

end
-- ==== Proof.Run.lean ====
/-
  The whole program, run: the host lines before, between and after the two calls, the TensorCore call, and the SparseCore call.

  The TensorCore's arrays are followed as one valuation: `W0` at the launch, `W1` after the first line of reshapes, `W2` after the
  TensorCore call (the row numbers written), `W3` after the codebook's padding and the row numbers' reshapes, `W4` after the
  SparseCore call (the gathered rows written), `W5` at the end. The run ends with every array of the TensorCore at `W5`, and every
  semaphore at zero.
-/
module

public import proofs.«01_k».proof.Proof.ScTile
public import proofs.«01_k».proof.Proof.TcBound

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)
open Idealize.ShloMosaic.Tactic
open Cert.Proof.Sc (ΛP K D 𝒱₀ 𝒱 v₀ facts UU EH EB EP tLoc iLoc oLoc gath P bars bcell bcell₃ bCells u₀ pipeGhost DCI)

variable {F : FTy → Type} [FloatOps F]

local notation "𝕄" => MT nD τ sig (HIx 1) (Elt F) ℕ UU ℕ

/-! ## The program in pieces -/

/-- The reshapes before the TensorCore call. -/
abbrev opsA : List (HloOp τ sig (Elt F)) :=
  [StableHlo.reshape main_arg0 main_v0 (rfl : (.f32 : EltTy) = .f32) shapeCasts_S8x64x32x32_S8x64x1024,
   StableHlo.reshape main_arg2 main_v1 (rfl : (.f32 : EltTy) = .f32) shapeCasts_S64_S64x1]

/-- The codebook's padding and the row numbers' reshapes. -/
abbrev opsB : List (HloOp τ sig (Elt F)) :=
  [StableHlo.nullary main_c (constantI S_ 32 0#32),
   StableHlo.unary main_c main_call0_v0 (sitofp .f32 : (⟨S_, .i32⟩ : BufTy).Contents (Elt F) → (⟨S_, .f32⟩ : BufTy).Contents (Elt F)),
   StableHlo.binary main_arg3 main_call0_v0 main_v3 ((fun x v => pad S8192x128 ![0, 0] ![0, 64] ![0, 0] x v pads_S8192x64_S8192x128_000_0640 h_S_) :
     (⟨S8192x64, .f32⟩ : BufTy).Contents (Elt F) → (⟨S_, .f32⟩ : BufTy).Contents (Elt F) → (⟨S8192x128, .f32⟩ : BufTy).Contents (Elt F)),
   StableHlo.reshape main_v2 main_v4 (rfl : (.i32 : EltTy) = .i32) shapeCasts_S8x1x1024_S8192,
   StableHlo.reshape main_v4 main_v5 (rfl : (.i32 : EltTy) = .i32) shapeCasts_S8192_S64x128]

/-- The gathered rows reshaped, cut to their 64 lanes and transposed. -/
abbrev opsC : List (HloOp τ sig (Elt F)) :=
  [StableHlo.reshape main_v6 main_v7 (rfl : (.f32 : EltTy) = .f32) shapeCasts_S8192x128_S8x32x32x128,
   StableHlo.unary main_v7 main_v8 ((extractStridedSlice S8x32x32x64 ![0, 0, 0, 0] · slices_S8x32x32x128_S8x32x32x64_0_0_0_0) : (⟨S8x32x32x128, .f32⟩ : BufTy).Contents (Elt F) → (⟨S8x32x32x64, .f32⟩ : BufTy).Contents (Elt F)),
   StableHlo.unary main_v8 main_v9 ((transpose S8x64x32x32 [0, 3, 1, 2] · transposes_S8x32x32x64_S8x64x32x32_0_3_1_2) : (⟨S8x32x32x64, .f32⟩ : BufTy).Contents (Elt F) → (⟨S8x64x32x32, .f32⟩ : BufTy).Contents (Elt F))]

/-- The program: a line, the TensorCore call, a line, the SparseCore call, a line. -/
theorem main_eq (d : Dev nD) :
    main (F := F) d = (seq opsA >>= fun _ => Prog.lift (.customCall (SparseCore.inner (Pipeline.entry 0)) ()) >>= fun _ =>
      seq opsB >>= fun _ => sc.run d 0 >>= fun _ => seq opsC >>= fun _ => pure ⟨⟩) := rfl

/-! ## The valuations -/

variable (m : (ℓ : Loc nD τ sig) → Buf (Elt F) ℓ) (ρ : Dev nD → PrngReg)

abbrev r' (b : Ref sig .tc) : DevRef τ sig := Proc.devRef .tc b

def W0 (d : Dev nD) : Valuation τ sig (Elt F) := fun b => m (d, b)
def W1 (d : Dev nD) : Valuation τ sig (Elt F) := after opsA (W0 m d)
/-- The arrays the TensorCore call is entered with. -/
def VA (d : Dev nD) (b : Ref sig .tc) : Buf (Elt F) ((d : Thread nD τ).loc b) := W1 m d (r' b)
def W2 (d : Dev nD) : Valuation τ sig (Elt F) := Function.update (W1 m d) (r' main_v2) (Tc.idxOf (VA m) d)
/-- The arrays it leaves. -/
def VB (d : Dev nD) (b : Ref sig .tc) : Buf (Elt F) ((d : Thread nD τ).loc b) := W2 m d (r' b)
def W3 (d : Dev nD) : Valuation τ sig (Elt F) := after opsB (W2 m d)
/-- The padded codebook and the row numbers the SparseCore call is entered with. -/
def tb (d : Dev nD) : Buf (Elt F) (tLoc d) := W3 m d (r' main_v3)
def ix (d : Dev nD) : Buf (Elt F) (iLoc d) := W3 m d (r' main_v5)
def W4 (d : Dev nD) : Valuation τ sig (Elt F) := Function.update (W3 m d) (r' main_v6) (gath (tb m) (ix m) d)
def W5 (d : Dev nD) : Valuation τ sig (Elt F) := after opsC (W4 m d)

theorem VB_out (d : Dev nD) : VB m d main_v2 = Tc.idxOf (VA m) d := by unfold VB W2; exact Function.update_self _ _ _
theorem VB_ne (d : Dev nD) (b : Ref sig .tc) (h : b ≠ main_v2) : VB m d b = VA m d b := by
  unfold VB W2 VA; exact Function.update_of_ne (StableHlo.devRef_ne_of_ne h) _ _

/-- The row numbers the SparseCore call is entered with are those of the TensorCore call, reshaped. -/
theorem ix_eq (d : Dev nD) :
    ix m d = shapeCast S64x128 (shapeCast S8192 (Tc.idxOf (VA m) d) shapeCasts_S8x1x1024_S8192) shapeCasts_S8192_S64x128 := by
  unfold ix W3
  after_results_simp
  rw [show W2 m d (r' main_v2) = Tc.idxOf (VA m) d from VB_out m d]
  rfl

/-- They are below 8192. -/
theorem ix_lt (d : Dev nD) (x) : (ix m d x).toNat < 8192 := by
  rw [ix_eq]
  exact Tc.idxV_below _ _ _ _ _

/-! ## The arrays as one resource -/

/-- The TensorCore's arrays. -/
def arrs : Finset (DevRef τ sig) := (StableHlo.tcRefs τ sig).filter fun b => ¬ b.isScoped

omit [FloatOps F] in
theorem unscoped_held (d : Dev nD) (W : Valuation τ sig (Elt F)) :
    (unscopedBufs d (fun b => W (r' b)) : sProp 𝕄) = held (d : Thread nD τ) arrs W := by
  unfold unscopedBufs held arrs StableHlo.tcRefs
  rw [Finset.filter_map, bigSep_map]
  rfl

theorem mem_arrs (b : Ref sig .tc) (h : b.isScoped = false) : r' b ∈ arrs :=
  Finset.mem_filter.mpr ⟨StableHlo.devRef_mem_tcRefs b, fun h' => Bool.false_ne_true (h.symm.trans h')⟩

/-- A host operation's buffers are among the arrays. -/
theorem sub_arrs {op : HloOp τ sig (Elt F)} (h : op.bufs ⊆ StableHlo.tcRefs τ sig) : op.bufs ⊆ arrs := fun b hb =>
  Finset.mem_filter.mpr ⟨h hb, fun h' => Bool.false_ne_true ((op.no_scoped b hb).symm.trans h')⟩

theorem opsA_sub : ∀ op ∈ opsA (F := F), op.bufs ⊆ arrs := by
  intro op h; apply sub_arrs
  simp only [List.mem_cons, List.not_mem_nil, or_false] at h
  rcases h with rfl | rfl <;> simp
theorem opsB_sub : ∀ op ∈ opsB (F := F), op.bufs ⊆ arrs := by
  intro op h; apply sub_arrs
  simp only [List.mem_cons, List.not_mem_nil, or_false] at h
  rcases h with rfl | rfl | rfl | rfl | rfl <;> simp
theorem opsC_sub : ∀ op ∈ opsC (F := F), op.bufs ⊆ arrs := by
  intro op h; apply sub_arrs
  simp only [List.mem_cons, List.not_mem_nil, or_false] at h
  rcases h with rfl | rfl | rfl <;> simp

theorem opsA_fresh : ∀ op ∈ opsA (F := F), op.fresh = ∅ := by
  intro op h
  simp only [List.mem_cons, List.not_mem_nil, or_false] at h
  rcases h with rfl | rfl <;> rfl
theorem opsB_fresh : ∀ op ∈ opsB (F := F), op.fresh = ∅ := by
  intro op h
  simp only [List.mem_cons, List.not_mem_nil, or_false] at h
  rcases h with rfl | rfl | rfl | rfl | rfl <;> rfl
theorem opsC_fresh : ∀ op ∈ opsC (F := F), op.fresh = ∅ := by
  intro op h
  simp only [List.mem_cons, List.not_mem_nil, or_false] at h
  rcases h with rfl | rfl | rfl <;> rfl

/-- The three arrays of the SparseCore call. -/
abbrev S3 : Finset (DevRef τ sig) := {r' main_v3, r' main_v5, r' main_v6}

theorem S3_sub : S3 ⊆ arrs := by
  intro b hb
  simp only [S3, Finset.mem_insert, Finset.mem_singleton] at hb
  rcases hb with rfl | rfl | rfl <;> exact mem_arrs _ (by decide)

omit [FloatOps F] in
theorem held_S3 (d : Dev nD) (W : Valuation τ sig (Elt F)) :
    (held (d : Thread nD τ) S3 W : sProp 𝕄) = iprop((tLoc d ↦{fullShare} W (r' main_v3)) ∗ (iLoc d ↦{fullShare} W (r' main_v5)) ∗ oLoc d ↦{fullShare} W (r' main_v6)) := by
  unfold held
  rw [SparseCore.bigSep_insert' (by decide), SparseCore.bigSep_insert' (by decide), bigSep_singleton]

/-- The SparseCore call writes its result and nothing else. -/
theorem held_W4 (d : Dev nD) :
    (held (d : Thread nD τ) arrs (W4 m d) : sProp 𝕄)
      = iprop(((tLoc d ↦{fullShare} tb m d) ∗ (iLoc d ↦{fullShare} ix m d) ∗ oLoc d ↦{fullShare} gath (tb m) (ix m) d)
          ∗ held (d : Thread nD τ) (arrs \ S3) (W3 m d)) := by
  rw [held_sub_split (d : Thread nD τ) S3_sub (W4 m d), held_S3]
  have e3 : W4 m d (r' main_v3) = tb m d := Function.update_of_ne (StableHlo.devRef_ne_of_ne (by decide)) _ _
  have e5 : W4 m d (r' main_v5) = ix m d := Function.update_of_ne (StableHlo.devRef_ne_of_ne (by decide)) _ _
  have e6 : W4 m d (r' main_v6) = gath (tb m) (ix m) d := Function.update_self _ _ _
  rw [e3, e5, e6]
  rw [held_congr (d : Thread nD τ) (V' := W3 m d) fun b hb => Function.update_of_ne (fun h => (Finset.mem_sdiff.mp hb).2 (by rw [h]; simp [S3])) _ _]

/-! ## The program on the TensorCore -/

/-- What the program leaves the claim: every array at `W5`, and the barrier semaphores. -/
abbrev FIN (d : Dev nD) : sProp 𝕄 :=
  iprop(held (d : Thread nD τ) arrs (W5 m d) ∗ bigSep Finset.univ fun c : Fin ((K (F := F)).nCore 0) => bars d c)

variable [∀ e, Nonempty (Elt F e)]

/-- The TensorCore call within the whole program. -/
theorem call_tc (d : Dev nD) (Φ : PUnit → sProp 𝕄) :
    iprop(levAts (K (F := F)).L (K (F := F)).lev ∗ boundary (d : Thread nD τ) ∗ unscopedBufs d (VA m d) ∗ Tc.owing d ∗ pipeGhost d
        ∗ ((boundary (d : Thread nD τ) ∗ unscopedBufs d (VB m d) ∗ Tc.owing d) -∗ Φ ⟨⟩))
      ⊢ wp frame (wpE ((K (F := F)).defs (D (F := F))) 𝒱 (d : Thread nD τ) none) Set.univ
          (Prog.lift (.customCall (SparseCore.inner (Pipeline.entry 0)) ())) Φ := by
  have h : iprop((iprop(boundary (d : Thread nD τ) ∗ iprop(unscopedBufs d (VB m d) ∗ Tc.owing d))
          -∗ wp frame (wpE (D (F := F)) 𝒱 (d : Thread nD τ) none) Set.univ (Prog.ret ⟨⟩) Φ)
        ∗ boundary (d : Thread nD τ) ∗ iprop(unscopedBufs d (VA m d) ∗ Tc.owing d) ∗ levAts (K (F := F)).L (K (F := F)).lev
        ∗ Pipeline.cellsGhost cfgs EP 0 d ∗ Pipeline.toksInit cfgs EP 0 d)
      ⊢ (wp frame (wpE (D (F := F)) 𝒱 (d : Thread nD τ) none) Set.univ (.op (.customCall (Pipeline.entry (0 : Fin 1)) ()) .ret) Φ : sProp 𝕄) :=
    ((Tc.reg (VA m) (VB m) (VB_out m) (VB_ne m)).wp pcfgs (fun p => (cfgs p).toPCfg_adm) (Tc.pdats (VA m)) none cellOf_inj EP defs₀ Variants.none
    (K (F := F)).L (K (F := F)).lev d none (fun u hu => nomatch hu) .ret Φ)
  iintro ⟨Hlev, Hb, Hub, HO, ⟨Hg, Ht⟩, Hk⟩
  iapply ((K (F := F)).wp_liftProg (D (F := F)) 𝒱 (d : Thread nD τ) Set.univ none
    (.op (.customCall (Pipeline.entry (0 : Fin 1)) ()) .ret) Φ)
  iapply h
  isplitl [Hk]
  · iintro ⟨Hb, Hub, HO⟩
    rw [wp_ret]; imodintro
    iapply Hk
    isplitl [Hb]; · iexact Hb
    isplitl [Hub] <;> iassumption
  isplitl [Hb]; · iexact Hb
  isplitl [Hub HO]; · isplitl [Hub] <;> iassumption
  isplitl [Hlev]; · iexact Hlev
  isplitl [Hg] <;> iassumption

omit [∀ e, Nonempty (Elt F e)] in
/-- The TensorCore's state before the SparseCore call: the start signals it owes, and a rest. -/
theorem tcSt_split (d : Dev nD) : ∃ R : sProp 𝕄, ((K (F := F)).tcSt EH d 0 : sProp 𝕄) = iprop(Tc.owing d ∗ R) := ⟨_, rfl⟩

/-- The program on device `d`'s TensorCore. -/
theorem hmain (κ : GSem nD τ sig → ℕ) (d : Dev nD) :
    iprop((K (F := F)).ctx EH (P (tb m) (ix m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) arrs (W0 m d) from unscoped_held d (W0 m d), main_eq]
  obtain ⟨R, hR⟩ := tcSt_split (F := F) d
  iintro ⟨#Hctx, Hst, ⟨Hb, Hheld, Hts, -⟩, Hg⟩
  -- the reshapes
  iapply (wp_seq 𝒱 none Set.univ d arrs _ opsA opsA_sub opsA_fresh (W0 m d)) $$ [Hb Hheld]
  · isplitl [Hb] <;> iassumption
  iintro ⟨Hb, Hheld⟩
  rw [wp_bind]
  -- the TensorCore call
  ihave Hub := (Entails.of_eq (show held (d : Thread nD τ) arrs (after opsA (W0 m d)) = (unscopedBufs d (VA m d) : sProp 𝕄) from (unscoped_held (F := F) d (W1 m d)).symm)) $$ Hheld
  ihave Hlev := (SparseCore.Cfg.ctx_levAts κ) $$ Hctx
  ihave Hst' := (Entails.of_eq hR) $$ Hst
  icases Hst' with ⟨HO, Hst⟩
  iapply (call_tc m d _) $$ [Hlev Hb Hub HO Hg Hst Hts]
  isplitl [Hlev]; · iexact Hlev
  isplitl [Hb]; · iexact Hb
  isplitl [Hub]; · iexact Hub
  isplitl [HO]; · iexact HO
  isplitl [Hg]; · iexact Hg
  iintro ⟨Hb, Hub, HO⟩
  ihave Hheld := (Entails.of_eq (show (unscopedBufs d (VB m d) : sProp 𝕄) = held (d : Thread nD τ) arrs (W2 m d) from unscoped_held (F := F) d (W2 m d))) $$ Hub
  -- the padding and the reshapes
  iapply (wp_seq 𝒱 none Set.univ d arrs _ opsB opsB_sub opsB_fresh (W2 m d)) $$ [Hb Hheld]
  · isplitl [Hb] <;> iassumption
  iintro ⟨Hb, Hheld⟩
  rw [wp_bind]
  -- the SparseCore call
  ihave Hh := (Entails.of_eq (show (held (d : Thread nD τ) arrs (after opsB (W2 m d)) : sProp 𝕄) = _ from held_sub_split (d : Thread nD τ) S3_sub (W3 m d))) $$ Hheld
  icases Hh with ⟨H3, Hrest⟩
  ihave H3' := (Entails.of_eq (held_S3 (F := F) d (W3 m d))) $$ H3
  iapply ((K (F := F)).wp_run (D (F := F)) 𝒱 (EH := EH) (P := P (tb m) (ix m)) κ d 0) $$ [HO Hst H3' Hrest Hb Hts]
  isplitr; · iexact Hctx
  isplitl [HO Hst]
  · iapply (Entails.of_eq hR.symm)
    isplitl [HO] <;> iassumption
  isplitl [H3']
  · iapply (Sc.st_intro (tb m) (ix m) d (W3 m d (r' main_v6))); iexact H3'
  iintro ⟨Hst, Hdn⟩
  ihave Hdn' := (Sc.dn_elim (tb m) (ix m) d) $$ Hdn
  icases Hdn' with ⟨H3, Hbars⟩
  ihave Hheld := (Entails.of_eq (held_W4 m d).symm) $$ [H3 Hrest]
  · isplitl [H3] <;> iassumption
  -- the last line
  iapply (wp_seq 𝒱 none Set.univ d arrs _ opsC opsC_sub opsC_fresh (W4 m d)) $$ [Hb Hheld]
  · isplitl [Hb] <;> iassumption
  iintro ⟨Hb, Hheld⟩
  rw [wp_pure]; imodintro
  isplitl [Hst]; · iexact Hst
  isplitl [Hheld Hbars]
  · isplitl [Hheld]; · iexact Hheld
    iexact Hbars
  isplitl [Hb]; · iexact Hb
  iexact Hts

/-! ## What the final state is -/

/-- The final state on device `d`: every array at `W5`, the barrier semaphores at zero. -/
def fq (d : Dev nD) (s' : Phys nD τ sig (Elt F)) : Prop :=
  (∀ b : Ref sig .tc, b.isScoped = false → s'.mem.mem ((SparseCore.T d).loc b) = W5 m d (r' b))
    ∧ ∀ (c : Fin ((K (F := F)).nCore 0)) (i : Fin ((K (F := F)).nSub 0)), s'.mem.sem (bcell d (Sc.coreOf (F := F) c) ((K (F := F)).sub 0 i)) = 0

omit [∀ e, Nonempty (Elt F e)] in
theorem hfin_arr (d : Dev nD) (s' : Phys nD τ sig (Elt F)) (b : Ref sig .tc) (f : Buf (Elt F) ((SparseCore.T d).loc b)) :
    iprop(((SparseCore.T d).loc b ↦{fullShare} f) ∗ SI s') ⊢ (⌜s'.mem.mem ((SparseCore.T d).loc b) = f⌝ : sProp 𝕄) := by
  iintro ⟨Hx, HSI⟩
  ihave H := (SI_pointsTo_agree (st := s') (ℓ := (SparseCore.T d).loc b) (I := Finset.univ) (q := fullShare) (f := f)) $$ [HSI Hx]
  · isplitl [HSI] <;> iassumption
  icases H with %hx
  ipureintro; exact funext fun i => hx i (Finset.mem_univ i)

omit [∀ e, Nonempty (Elt F e)] in
theorem hfin (d : Dev nD) (s' : Phys nD τ sig (Elt F)) : iprop(FIN m d ∗ SI s') ⊢ (⌜fq m d s'⌝ : sProp 𝕄) :=
  fun x hx => ⟨fun b hb =>
    ((sep_mono_left (sep_elim_left.trans (SparseCore.ent (bigSep_elim (Φ := fun b : DevRef τ sig => (((d, b) : Loc nD τ sig) ↦{fullShare} W5 m d b : sProp 𝕄)) (mem_arrs b hb))))).trans
      (hfin_arr d s' b (W5 m d (r' b)))) x hx,
    fun c i => ((sep_mono_left (sep_elim_right.trans ((SparseCore.ent (bigSep_elim (Finset.mem_univ c))).trans (SparseCore.ent (bigSep_elim (Finset.mem_univ i)))))).trans
      (SparseCore.Cfg.semVal_zero_read _ s')) x hx⟩

omit [∀ e, Nonempty (Elt F e)] in
/-- The barrier cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-! ## The run -/

/-- The program's post: every array of the TensorCore at `W5`, every semaphore at zero. -/
def QC : PUnit × MemSt nD τ sig (Elt F) → Prop := fun r =>
  (∀ (c : Dev nD) (b : Ref sig .tc), b.isScoped = false → r.2.mem ((SparseCore.T c).loc b) = W5 m c (r' b)) ∧ r.2.sem = fun _ => 0

/-- THE PROGRAM RUNS from any memory: it terminates without a fault, every array of the TensorCore at `W5`, every semaphore at zero. -/
theorem run_all : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb m) (ix m)) (hA := hA m) facts v₀
    (fun q hq => match q with | 0 => nomatch hq)
    (fun q _ => match q with | 0 => Sc.tileObl (tb m) Sc.facts (ix_lt m))
    (fun q _ => match q with | 0 => Sc.vecSplit (tb m) (ix m))
    m ρ main (fun d => pipeGhost d) (FIN m) (u₀ (F := F)) (Sc.hu₀ (tb m) (ix m)) (hmain m ρ) (fq m) (hfin m) (QC m) (fun _ h hz => ⟨fun c => (h c).1, hz⟩)

end Cert.Proof.Run

end
-- ==== Proof.Frames.lean ====
/-
  The arguments at the end of the run, the kernel's two frames, and the value of its result.
-/
module

public import proofs.«01_k».proof.Proof.Run
public import proofs.«01_k».proof.Proof.Gen.Kernel

@[expose] public section

noncomputable section

namespace Cert.Proof.Run

open Cert.KernelIdeal Cert.KernelIdeal.Gen
open Idealize.ShloMosaic Idealize.ShloMosaic.TcCoe
open Idealize.SL.Sem
open Idealize.ShloMosaic.StableHlo (after)
open Cert.Proof.Sc (tLoc iLoc oLoc gath)

variable {F : FTy → Type} [FloatOps F]
variable (m : (ℓ : Loc nD τ sig) → Buf (Elt F) ℓ) (ρ : Dev nD → PrngReg)

/-- An array that no line and no call writes is at the end what it was at the launch. -/
theorem W5_kept (d : Dev nD) (b : Ref sig .tc) (hA : ∀ op ∈ opsA (F := F), r' b ∉ op.writes) (hB : ∀ op ∈ opsB (F := F), r' b ∉ op.writes)
    (hC : ∀ op ∈ opsC (F := F), r' b ∉ op.writes) (h2 : b ≠ main_v2) (h6 : b ≠ main_v6) : W5 m d (r' b) = m ((SparseCore.T d).loc b) := by
  unfold W5
  rw [StableHlo.after_of_forall_not_mem _ _ hC]
  unfold W4
  rw [Function.update_of_ne (StableHlo.devRef_ne_of_ne h6)]
  unfold W3
  rw [StableHlo.after_of_forall_not_mem _ _ hB]
  unfold W2
  rw [Function.update_of_ne (StableHlo.devRef_ne_of_ne h2)]
  unfold W1
  rw [StableHlo.after_of_forall_not_mem _ _ hA]
  rfl

/-- The four arguments end as they were. -/
theorem W5_args (d : Dev nD) : W5 m d (r' main_arg0) = m ((SparseCore.T d).loc main_arg0) ∧ W5 m d (r' main_arg1) = m ((SparseCore.T d).loc main_arg1)
    ∧ W5 m d (r' main_arg2) = m ((SparseCore.T d).loc main_arg2) ∧ W5 m d (r' main_arg3) = m ((SparseCore.T d).loc main_arg3) := by
  refine ⟨?_, ?_, ?_, ?_⟩ <;>
  · apply W5_kept <;> first | decide | skip
    all_goals
      intro op h
      simp only [List.mem_cons, List.not_mem_nil, or_false] at h
      first
        | (rcases h with rfl | rfl | rfl | rfl | rfl)
        | (rcases h with rfl | rfl | rfl)
        | (rcases h with rfl | rfl)
      all_goals
        simp only [StableHlo.reshape_writes, StableHlo.nullary_writes, StableHlo.unary_writes, StableHlo.binary_writes]
        exact fun h => StableHlo.devRef_ne_of_ne (by decide) (Finset.mem_singleton.mp h)

variable [∀ e, Nonempty (Elt F e)]

/-- THE RUN, of the arguments, the result and the semaphores. -/
theorem run_main : θ_run (Cert.KernelIdeal.defs (F := F)) (Cert.KernelIdeal.threads (F := F)) ⟨m, fun _ => 0, ρ⟩ fun r =>
    (∀ c : Dev nD, r.2.mem ((SparseCore.T c).loc main_v9) = W5 m c (r' main_v9)
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3))
    ∧ r.2.sem = fun _ => 0 :=
  (θ_run Cert.KernelIdeal.defs _ _).mono (fun _ h => ⟨fun c =>
    have a := W5_args m c
    ⟨h.1 c main_v9 rfl, (h.1 c main_arg0 rfl).trans a.1, (h.1 c main_arg1 rfl).trans a.2.1, (h.1 c main_arg2 rfl).trans a.2.2.1, (h.1 c main_arg3 rfl).trans a.2.2.2⟩, h.2⟩)
    (run_all m ρ)

/-- The two printings of the kernel have the same bodies. -/
theorem bodies_eq : Cert.Kernel.defs₀ (F := Bits) = Cert.KernelIdeal.defs₀ (F := Bits) := by
  funext p ℓ a
  match p, ℓ, a with
  | .tc, 0, _ => rfl
  | .tc, 1, _ => rfl
  | .scVector _ _, 0, _ => rfl
  | .scVector _ _, 1, _ => rfl
  | .scScalar _, 0, _ => rfl
  | .scScalar _, 1, _ => rfl

/-- They are the same program. -/
theorem defs_eq : Cert.Kernel.defs (F := Bits) = Cert.KernelIdeal.defs (F := Bits) := by
  unfold Cert.Kernel.defs Cert.KernelIdeal.defs
  rw [bodies_eq]; rfl

/-- The kernel's frame over bit patterns. -/
theorem frame_kernel : Cert.quiescent_Kernel := fun m ρ _ => by
  rw [defs_eq]
  exact (θ_run Cert.KernelIdeal.defs Cert.KernelIdeal.threads _).mono (fun _ h => And.intro (fun c => (h.1 c).2) h.2) (run_main (F := Bits) m ρ)

/-- The kernel's frame over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

end Cert.Proof.Run

end
-- ==== Proof.RefRun.lean ====
/-
  The reference, run. It is one line of host operations, with no kernel; the line is cut into four pieces (the normalised pixel
  rows; the table of squared distances; the arg-min; the rows taken), and its result is the four pieces' values composed.
-/
module

public import proofs.«01_k».proof.Defs
public import Idealize.ShloMosaic.Lib.StableHlo.Run
public import Idealize.ShloMosaic.Lib.Quiescent
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The line of operations -/

/-- The lines up to the normalised pixel rows. -/
abbrev opsA : List (HloOp τ sig (Elt F)) :=
  [StableHlo.binary main_arg0 main_arg1 main_v0 ((fun l r => Host.dotGeneral dot_S8x64x32x32_S64x64_S8x32x32x64_1_1_023_0_n_n none l r) : (⟨S8x64x32x32, .f32⟩ : BufTy).Contents (Elt F) → (⟨S64x64, .f32⟩ : BufTy).Contents (Elt F) → (⟨S8x32x32x64, .f32⟩ : BufTy).Contents (Elt F)),
   StableHlo.unary main_v0 main_v1 ((transpose S8x64x32x32 [0, 3, 1, 2] · transposes_S8x32x32x64_S8x64x32x32_0_3_1_2) : (⟨S8x32x32x64, .f32⟩ : BufTy).Contents (Elt F) → (⟨S8x64x32x32, .f32⟩ : BufTy).Contents (Elt F)),
   StableHlo.unary main_arg2 main_v2 (broadcastInDim S1x64x1x1 ![1] bcast_S64_S1x64x1x1_1 : (⟨S64, .f32⟩ : BufTy).Contents (Elt F) → (⟨S1x64x1x1, .f32⟩ : BufTy).Contents (Elt F)),
   StableHlo.unary main_v2 main_v3 (broadcastInDim S8x64x32x32 ![0, 1, 2, 3] bcast_S1x64x1x1_S8x64x32x32_0_1_2_3 : (⟨S1x64x1x1, .f32⟩ : BufTy).Contents (Elt F) → (⟨S8x64x32x32, .f32⟩ : BufTy).Contents (Elt F)),
   StableHlo.binary main_v1 main_v3 main_v4 (addf : (⟨S8x64x32x32, .f32⟩ : BufTy).Contents (Elt F) → (⟨S8x64x32x32, .f32⟩ : BufTy).Contents (Elt F) → (⟨S8x64x32x32, .f32⟩ : BufTy).Contents (Elt F)),
   StableHlo.unary main_v4 main_v5 ((transpose S8x32x32x64 [0, 2, 3, 1] · transposes_S8x64x32x32_S8x32x32x64_0_2_3_1) : (⟨S8x64x32x32, .f32⟩ : BufTy).Contents (Elt F) → (⟨S8x32x32x64, .f32⟩ : BufTy).Contents (Elt F)),
   StableHlo.reshape main_v5 main_v6 (rfl : (.f32 : EltTy) = .f32) shapeCasts_S8x32x32x64_S8192x64,
   StableHlo.binary main_v6 main_v6 main_call0_v0 (mulf : (⟨S8192x64, .f32⟩ : BufTy).Contents (Elt F) → (⟨S8192x64, .f32⟩ : BufTy).Contents (Elt F) → (⟨S8192x64, .f32⟩ : BufTy).Contents (Elt F)),
   StableHlo.nullary main_call0_cst (constant S_ .f32 0x00000000#32),
   StableHlo.binary main_call0_v0 main_call0_cst main_call0_v1 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_call0_v1 main_call0_v2 (broadcastInDim S8192x1 ![0] bcast_S8192_S8192x1_0 : (⟨S8192, .f32⟩ : BufTy).Contents (Elt F) → (⟨S8192x1, .f32⟩ : BufTy).Contents (Elt F)),
   StableHlo.unary main_call0_v2 main_v7 (Host.sqrt : (⟨S8192x1, .f32⟩ : BufTy).Contents (Elt F) → (⟨S8192x1, .f32⟩ : BufTy).Contents (Elt F)),
   StableHlo.nullary main_cst (constant S_ .f32 0x2B8CBCCC#32),
   StableHlo.unary main_cst main_v8 (broadcastInDim S8192x1 ![] bcast_S_S8192x1 : (⟨S_, .f32⟩ : BufTy).Contents (Elt F) → (⟨S8192x1, .f32⟩ : BufTy).Contents (Elt F)),
   StableHlo.binary main_v7 main_v8 main_v9 (maximumf : (⟨S8192x1, .f32⟩ : BufTy).Contents (Elt F) → (⟨S8192x1, .f32⟩ : BufTy).Contents (Elt F) → (⟨S8192x1, .f32⟩ : BufTy).Contents (Elt F)),
   StableHlo.unary main_v9 main_v10 (broadcastInDim S8192x64 ![0, 1] bcast_S8192x1_S8192x64_0_1 : (⟨S8192x1, .f32⟩ : BufTy).Contents (Elt F) → (⟨S8192x64, .f32⟩ : BufTy).Contents (Elt F)),
   StableHlo.binary main_v6 main_v10 main_v11 (Host.divf : (⟨S8192x64, .f32⟩ : BufTy).Contents (Elt F) → (⟨S8192x64, .f32⟩ : BufTy).Contents (Elt F) → (⟨S8192x64, .f32⟩ : BufTy).Contents (Elt F))]

/-- The lines up to the table of squared distances. -/
abbrev opsB : List (HloOp τ sig (Elt F)) :=
  [StableHlo.binary main_v11 main_v11 main_v12 (mulf : (⟨S8192x64, .f32⟩ : BufTy).Contents (Elt F) → (⟨S8192x64, .f32⟩ : BufTy).Contents (Elt F) → (⟨S8192x64, .f32⟩ : BufTy).Contents (Elt F)),
   StableHlo.nullary main_cst_0 (constant S_ .f32 0x00000000#32),
   StableHlo.binary main_v12 main_cst_0 main_v13 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v13 main_v14 (broadcastInDim S8192x1 ![0] bcast_S8192_S8192x1_0 : (⟨S8192, .f32⟩ : BufTy).Contents (Elt F) → (⟨S8192x1, .f32⟩ : BufTy).Contents (Elt F)),
   StableHlo.binary main_arg3 main_arg3 main_v15 (mulf : (⟨S8192x64, .f32⟩ : BufTy).Contents (Elt F) → (⟨S8192x64, .f32⟩ : BufTy).Contents (Elt F) → (⟨S8192x64, .f32⟩ : BufTy).Contents (Elt F)),
   StableHlo.nullary main_cst_1 (constant S_ .f32 0x00000000#32),
   StableHlo.binary main_v15 main_cst_1 main_v16 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v16 main_v17 (broadcastInDim S1x8192 ![1] bcast_S8192_S1x8192_1 : (⟨S8192, .f32⟩ : BufTy).Contents (Elt F) → (⟨S1x8192, .f32⟩ : BufTy).Contents (Elt F)),
   StableHlo.unary main_v14 main_v18 (broadcastInDim S8192x8192 ![0, 1] bcast_S8192x1_S8192x8192_0_1 : (⟨S8192x1, .f32⟩ : BufTy).Contents (Elt F) → (⟨S8192x8192, .f32⟩ : BufTy).Contents (Elt F)),
   StableHlo.unary main_v17 main_v19 (broadcastInDim S8192x8192 ![0, 1] bcast_S1x8192_S8192x8192_0_1 : (⟨S1x8192, .f32⟩ : BufTy).Contents (Elt F) → (⟨S8192x8192, .f32⟩ : BufTy).Contents (Elt F)),
   StableHlo.binary main_v18 main_v19 main_v20 (addf : (⟨S8192x8192, .f32⟩ : BufTy).Contents (Elt F) → (⟨S8192x8192, .f32⟩ : BufTy).Contents (Elt F) → (⟨S8192x8192, .f32⟩ : BufTy).Contents (Elt F)),
   StableHlo.unary main_arg3 main_v21 ((transpose S64x8192 [1, 0] · transposes_S8192x64_S64x8192_1_0) : (⟨S8192x64, .f32⟩ : BufTy).Contents (Elt F) → (⟨S64x8192, .f32⟩ : BufTy).Contents (Elt F)),
   StableHlo.binary main_v11 main_v21 main_v22 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
   StableHlo.nullary main_cst_2 (constant S_ .f32 0x40000000#32),
   StableHlo.unary main_cst_2 main_v23 (broadcastInDim S8192x8192 ![] bcast_S_S8192x8192 : (⟨S_, .f32⟩ : BufTy).Contents (Elt F) → (⟨S8192x8192, .f32⟩ : BufTy).Contents (Elt F)),
   StableHlo.binary main_v23 main_v22 main_v24 (mulf : (⟨S8192x8192, .f32⟩ : BufTy).Contents (Elt F) → (⟨S8192x8192, .f32⟩ : BufTy).Contents (Elt F) → (⟨S8192x8192, .f32⟩ : BufTy).Contents (Elt F)),
   StableHlo.binary main_v20 main_v24 main_v25 (subf : (⟨S8192x8192, .f32⟩ : BufTy).Contents (Elt F) → (⟨S8192x8192, .f32⟩ : BufTy).Contents (Elt F) → (⟨S8192x8192, .f32⟩ : BufTy).Contents (Elt F))]

/-- The lines of the arg-min. -/
abbrev opsC : List (HloOp τ sig (Elt F)) :=
  [StableHlo.nullary main_call1_v0 (iotaInDim S8192x8192 32 1),
   StableHlo.nullary main_call1_cst (constant S_ .f32 0x7F800000#32),
   StableHlo.nullary main_call1_c (constantI S_ 32 0#32),
   StableHlo.quaternary main_v25 main_call1_v0 main_call1_cst main_call1_c main_call1_v1_0 ((fun x y u v j => (Host.argReduce reducer_argmin_f32_i32 x y u v reducesTo_S8192x8192_S8192_d1 h_S_ j).1) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .f32⟩ : BufTy).Contents (Elt F)),
   StableHlo.quaternary main_v25 main_call1_v0 main_call1_cst main_call1_c main_v26 ((fun x y u v j => (Host.argReduce reducer_argmin_f32_i32 x y u v reducesTo_S8192x8192_S8192_d1 h_S_ j).2) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .i32⟩ : BufTy).Contents (Elt F))]

/-- The lines that take the codebook rows and lay them out as the result. -/
abbrev opsD : List (HloOp τ sig (Elt F)) :=
  [StableHlo.nullary main_call2_c (constantI S_ 32 0#32),
   StableHlo.unary main_call2_c main_call2_v0 (broadcastInDim S8192 ![] bcast_S_S8192 : (⟨S_, .i32⟩ : BufTy).Contents (Elt F) → (⟨S8192, .i32⟩ : BufTy).Contents (Elt F)),
   StableHlo.binary main_v26 main_call2_v0 main_call2_v1 (cmpi .slt : (⟨S8192, .i32⟩ : BufTy).Contents (Elt F) → (⟨S8192, .i32⟩ : BufTy).Contents (Elt F) → (⟨S8192, .i1⟩ : BufTy).Contents (Elt F)),
   StableHlo.nullary main_call2_c_0 (constantI S_ 32 8192#32),
   StableHlo.unary main_call2_c_0 main_call2_v2 (broadcastInDim S8192 ![] bcast_S_S8192 : (⟨S_, .i32⟩ : BufTy).Contents (Elt F) → (⟨S8192, .i32⟩ : BufTy).Contents (Elt F)),
   StableHlo.binary main_v26 main_call2_v2 main_call2_v3 (addi : (⟨S8192, .i32⟩ : BufTy).Contents (Elt F) → (⟨S8192, .i32⟩ : BufTy).Contents (Elt F) → (⟨S8192, .i32⟩ : BufTy).Contents (Elt F)),
   StableHlo.ternary main_call2_v1 main_call2_v3 main_v26 main_call2_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.unary main_call2_v4 main_call2_v5 (broadcastInDim S8192x1 ![0] bcast_S8192_S8192x1_0 : (⟨S8192, .i32⟩ : BufTy).Contents (Elt F) → (⟨S8192x1, .i32⟩ : BufTy).Contents (Elt F)),
   StableHlo.nullary main_call2_c_1 (constantI S1 32 8191#32),
   StableHlo.nullary main_call2_c_2 (constantI S_ 32 0#32),
   StableHlo.unary main_call2_c_2 main_call2_v6 (broadcastInDim S8192x1 ![] bcast_S_S8192x1 : (⟨S_, .i32⟩ : BufTy).Contents (Elt F) → (⟨S8192x1, .i32⟩ : BufTy).Contents (Elt F)),
   StableHlo.binary main_call2_v5 main_call2_v6 main_call2_v7 (cmpi .sge : (⟨S8192x1, .i32⟩ : BufTy).Contents (Elt F) → (⟨S8192x1, .i32⟩ : BufTy).Contents (Elt F) → (⟨S8192x1, .i1⟩ : BufTy).Contents (Elt F)),
   StableHlo.unary main_call2_c_1 main_call2_v8 (broadcastInDim S1x1 ![1] bcast_S1_S1x1_1 : (⟨S1, .i32⟩ : BufTy).Contents (Elt F) → (⟨S1x1, .i32⟩ : BufTy).Contents (Elt F)),
   StableHlo.unary main_call2_v8 main_call2_v9 (broadcastInDim S8192x1 ![0, 1] bcast_S1x1_S8192x1_0_1 : (⟨S1x1, .i32⟩ : BufTy).Contents (Elt F) → (⟨S8192x1, .i32⟩ : BufTy).Contents (Elt F)),
   StableHlo.binary main_call2_v5 main_call2_v9 main_call2_v10 (cmpi .sle : (⟨S8192x1, .i32⟩ : BufTy).Contents (Elt F) → (⟨S8192x1, .i32⟩ : BufTy).Contents (Elt F) → (⟨S8192x1, .i1⟩ : BufTy).Contents (Elt F)),
   StableHlo.binary main_call2_v7 main_call2_v10 main_call2_v11 (andi : (⟨S8192x1, .i1⟩ : BufTy).Contents (Elt F) → (⟨S8192x1, .i1⟩ : BufTy).Contents (Elt F) → (⟨S8192x1, .i1⟩ : BufTy).Contents (Elt F)),
   StableHlo.nullary main_call2_c_3 (constantI S_ 1 1#1),
   StableHlo.binary main_call2_v11 main_call2_c_3 main_call2_v12 ((fun x v => Host.reduce IntOp.andi x v reducesTo_S8192x1_S8192_d1 h_S_) : (⟨S8192x1, .i1⟩ : BufTy).Contents (Elt F) → (⟨S_, .i1⟩ : BufTy).Contents (Elt F) → (⟨S8192, .i1⟩ : BufTy).Contents (Elt F)),
   StableHlo.binary main_arg3 main_call2_v5 main_call2_v13 ((fun x i => Host.gather gather_S8192x64_S8192x1_S8192x64_1_0_n_n_0_1_164 x i) : (⟨S8192x64, .f32⟩ : BufTy).Contents (Elt F) → (⟨S8192x1, .i32⟩ : BufTy).Contents (Elt F) → (⟨S8192x64, .f32⟩ : BufTy).Contents (Elt F)),
   StableHlo.unary main_call2_v12 main_call2_v14 (broadcastInDim S8192x64 ![0] bcast_S8192_S8192x64_0 : (⟨S8192, .i1⟩ : BufTy).Contents (Elt F) → (⟨S8192x64, .i1⟩ : BufTy).Contents (Elt F)),
   StableHlo.nullary main_call2_cst (constant S_ .f32 0x7FC00000#32),
   StableHlo.unary main_call2_cst main_call2_v15 (broadcastInDim S8192x64 ![] bcast_S_S8192x64 : (⟨S_, .f32⟩ : BufTy).Contents (Elt F) → (⟨S8192x64, .f32⟩ : BufTy).Contents (Elt F)),
   StableHlo.ternary main_call2_v14 main_call2_v13 main_call2_v15 main_v27 (select : (⟨S8192x64, .i1⟩ : BufTy).Contents (Elt F) → (⟨S8192x64, .f32⟩ : BufTy).Contents (Elt F) → (⟨S8192x64, .f32⟩ : BufTy).Contents (Elt F) → (⟨S8192x64, .f32⟩ : BufTy).Contents (Elt F)),
   StableHlo.reshape main_v27 main_v28 (rfl : (.f32 : EltTy) = .f32) shapeCasts_S8192x64_S8x32x32x64,
   StableHlo.unary main_v28 main_v29 ((transpose S8x64x32x32 [0, 3, 1, 2] · transposes_S8x32x32x64_S8x64x32x32_0_3_1_2) : (⟨S8x32x32x64, .f32⟩ : BufTy).Contents (Elt F) → (⟨S8x64x32x32, .f32⟩ : BufTy).Contents (Elt F))]

/-- The whole line. -/
abbrev ops : List (HloOp τ sig (Elt F)) := opsA ++ (opsB ++ (opsC ++ opsD))

set_option maxRecDepth 100000 in
/-- The reference is that line. -/
theorem main_eq (c : Dev nD) : main (F := F) c = seq ops := rfl

/-! ## The values -/

/-- The pixel rows: the 1x1 convolution, biased, channels last, one row per pixel. -/
def pix (x : Vec F S8x64x32x32 .f32) (w : Vec F S64x64 .f32) (b : Vec F S64 .f32) : Vec F S8192x64 .f32 :=
  shapeCast S8192x64 (transpose S8x32x32x64 [0, 2, 3, 1]
    (addf (transpose S8x64x32x32 [0, 3, 1, 2]
        (Host.dotGeneral dot_S8x64x32x32_S64x64_S8x32x32x64_1_1_023_0_n_n none x w : Vec F S8x32x32x64 .f32)
        transposes_S8x32x32x64_S8x64x32x32_0_3_1_2)
      (broadcastInDim S8x64x32x32 ![0, 1, 2, 3] bcast_S1x64x1x1_S8x64x32x32_0_1_2_3 (broadcastInDim S1x64x1x1 ![1] bcast_S64_S1x64x1x1_1 b)))
    transposes_S8x64x32x32_S8x32x32x64_0_2_3_1) shapeCasts_S8x32x32x64_S8192x64

/-- The normalised rows: each row over the larger of its norm and 1e-12. -/
def nrm (q : Vec F S8192x64 .f32) : Vec F S8192x64 .f32 :=
  Host.divf q (broadcastInDim S8192x64 ![0, 1] bcast_S8192x1_S8192x64_0_1
    (maximumf (Host.sqrt (broadcastInDim S8192x1 ![0] bcast_S8192_S8192x1_0
        (Host.reduceAdd (mulf q q) (constant S_ .f32 0x00000000#32) reducesTo_S8192x64_S8192_d1 h_S_)))
      (broadcastInDim S8192x1 ![] bcast_S_S8192x1 (constant S_ .f32 0x2B8CBCCC#32))))

/-- The squared distances: pixel's row by codebook's row. -/
def dst (f cb : Vec F S8192x64 .f32) : Vec F S8192x8192 .f32 :=
  subf (addf
      (broadcastInDim S8192x8192 ![0, 1] bcast_S8192x1_S8192x8192_0_1 (broadcastInDim S8192x1 ![0] bcast_S8192_S8192x1_0
        (Host.reduceAdd (mulf f f) (constant S_ .f32 0x00000000#32) reducesTo_S8192x64_S8192_d1 h_S_)))
      (broadcastInDim S8192x8192 ![0, 1] bcast_S1x8192_S8192x8192_0_1 (broadcastInDim S1x8192 ![1] bcast_S8192_S1x8192_1
        (Host.reduceAdd (mulf cb cb) (constant S_ .f32 0x00000000#32) reducesTo_S8192x64_S8192_d1 h_S_))))
    (mulf (broadcastInDim S8192x8192 ![] bcast_S_S8192x8192 (constant S_ .f32 0x40000000#32))
      (Host.dotGeneral dot_S8192x64_S64x8192_S8192x8192_1_0_0_1_n_n none f
        (transpose S64x8192 [1, 0] cb transposes_S8192x64_S64x8192_1_0)))

/-- The second result of a two-operand reduction: the index that comes with the value it ends at. -/
def second {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) : IVec t 32 := fun j =>
  (Host.argReduce f x y ix iy h hu j).2

/-- The row number of each pixel's least distance. -/
def amin (d : Vec F S8192x8192 .f32) : Vec F S8192 .i32 :=
  second reducer_argmin_f32_i32 d (iotaInDim S8192x8192 32 1) (constant S_ .f32 0x7F800000#32) (constantI S_ 32 0#32)
    reducesTo_S8192x8192_S8192_d1 h_S_

/-- A negative row number counted from the end. -/
def wrap (i : Vec F S8192 .i32) : Vec F S8192x1 .i32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- The rows taken, one per pixel; a row number out of range gives not-a-number. -/
def tak (cb : Vec F S8192x64 .f32) (i : Vec F S8192 .i32) : Vec F S8192x64 .f32 :=
  select (broadcastInDim S8192x64 ![0] bcast_S8192_S8192x64_0
      (Host.reduce IntOp.andi
        (andi (cmpi .sge (wrap (F := F) i) (broadcastInDim S8192x1 ![] bcast_S_S8192x1 (constantI S_ 32 0#32)))
          (cmpi .sle (wrap (F := F) i) (broadcastInDim S8192x1 ![0, 1] bcast_S1x1_S8192x1_0_1 (broadcastInDim S1x1 ![1] bcast_S1_S1x1_1 (constantI S1 32 8191#32)))))
        (constantI S_ 1 1#1) reducesTo_S8192x1_S8192_d1 h_S_))
    (Host.gather gather_S8192x64_S8192x1_S8192x64_1_0_n_n_0_1_164 cb (wrap (F := F) i))
    (broadcastInDim S8192x64 ![] bcast_S_S8192x64 (constant S_ .f32 0x7FC00000#32))

/-- The rows as the result: images, channels first. -/
def lay (t : Vec F S8192x64 .f32) : Vec F S8x64x32x32 .f32 :=
  transpose S8x64x32x32 [0, 3, 1, 2] (shapeCast S8x32x32x64 t shapeCasts_S8192x64_S8x32x32x64) transposes_S8x32x32x64_S8x64x32x32_0_3_1_2

abbrev r' (b : Ref sig .tc) : DevRef τ sig := Proc.devRef .tc b

section
variable (V : Valuation τ sig (Elt F))

theorem afterA : after opsA V (r' main_v11) = nrm (pix (V (r' main_arg0)) (V (r' main_arg1)) (V (r' main_arg2))) := by
  after_results_simp
  rfl
theorem afterB : after opsB V (r' main_v25) = dst (V (r' main_v11)) (V (r' main_arg3)) := by
  after_results_simp
  rfl
theorem afterC : after opsC V (r' main_v26) = amin (V (r' main_v25)) := by
  after_results_simp
  rfl
theorem afterD : after opsD V (r' main_v29) = lay (tak (V (r' main_arg3)) (V (r' main_v26))) := by
  after_results_simp
  rfl

/-- The four arguments, which no operation writes. -/
abbrev args : List (Ref sig .tc) := [main_arg0, main_arg1, main_arg2, main_arg3]

theorem keptA : ∀ b ∈ args, after opsA V (r' b) = V (r' b) := by
  intro b h; simp only [args, List.mem_cons, List.not_mem_nil, or_false] at h
  rcases h with rfl | rfl | rfl | rfl <;> after_results_simp
theorem keptB : ∀ b ∈ args, after opsB V (r' b) = V (r' b) := by
  intro b h; simp only [args, List.mem_cons, List.not_mem_nil, or_false] at h
  rcases h with rfl | rfl | rfl | rfl <;> after_results_simp
theorem keptC : ∀ b ∈ args, after opsC V (r' b) = V (r' b) := by
  intro b h; simp only [args, List.mem_cons, List.not_mem_nil, or_false] at h
  rcases h with rfl | rfl | rfl | rfl <;> after_results_simp
theorem keptD : ∀ b ∈ args, after opsD V (r' b) = V (r' b) := by
  intro b h; simp only [args, List.mem_cons, List.not_mem_nil, or_false] at h
  rcases h with rfl | rfl | rfl | rfl <;> after_results_simp

omit [FloatOps F] in
/-- A line in two pieces, run one after the other. -/
theorem after_two (l k : List (HloOp τ sig (Elt F))) (W : Valuation τ sig (Elt F)) : after (l ++ k) W = after k (after l W) := by
  induction l generalizing W with
  | nil => rfl
  | cons a l ih => exact ih _

/-- The whole line is its four pieces, run one after the other. -/
theorem after_cut (b : DevRef τ sig) : after ops V b = after opsD (after opsC (after opsB (after opsA V))) b := by
  show after (opsA ++ (opsB ++ (opsC ++ opsD))) V b = _
  rw [after_two, after_two, after_two]

theorem kept : ∀ b ∈ args, after ops V (r' b) = V (r' b) := by
  intro b h
  rw [after_cut, keptD _ b h, keptC _ b h, keptB _ b h, keptA _ b h]
end

/-- The row numbers the reference finds. -/
def rows (x : Vec F S8x64x32x32 .f32) (w : Vec F S64x64 .f32) (b : Vec F S64 .f32) (cb : Vec F S8192x64 .f32) : Vec F S8192 .i32 :=
  amin (dst (nrm (pix x w b)) cb)

theorem out_eq (V : Valuation τ sig (Elt F)) : after ops V (r' main_v29)
    = lay (tak (V (r' main_arg3)) (rows (V (r' main_arg0)) (V (r' main_arg1)) (V (r' main_arg2)) (V (r' main_arg3)))) := by
  rw [after_cut, afterD, afterC, keptC _ main_arg3 (by simp), afterB, keptB _ main_arg3 (by simp), afterA, keptA _ main_arg3 (by simp)]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  refine List.forall_iff_forall_mem.2 fun op h => ?_
  simp only [ops, opsA, opsB, opsC, opsD, List.cons_append, List.nil_append, List.mem_cons, List.not_mem_nil, or_false] at h
  repeat' (rcases h with rfl | h)
  all_goals (try subst h)
  all_goals simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v29)
          = lay (tak (m ((c : Thread nD τ).loc main_arg3)) (rows (m ((c : Thread nD τ).loc main_arg0)) (m ((c : Thread nD τ).loc main_arg1))
              (m ((c : Thread nD τ).loc main_arg2)) (m ((c : Thread nD τ).loc main_arg3))))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3) :=
  (θ_run defs _ _).mono (fun r h c => ⟨(h c main_v29).trans (out_eq _), (h c main_arg0).trans (kept _ main_arg0 (by simp)),
      (h c main_arg1).trans (kept _ main_arg1 (by simp)), (h c main_arg2).trans (kept _ main_arg2 (by simp)),
      (h c main_arg3).trans (kept _ main_arg3 (by simp))⟩)
    (run_seq scopedRefs_eq scopedSems_eq defs main (fun _ => ops) main_eq (fun _ => ops_sub) m ρ)

/-- The reference's frame. -/
theorem frame_ref : Cert.quiescent_ReferenceIdeal := by
  intro m g _
  exact (θ_run defs _ _).mono (fun r h => ⟨fun c => (h c).2, Idealize.ShloMosaic.sem_eq_zero_of_no_sems (by decide) r.2⟩) (run m g)

end Cert.Proof.Ref

end
-- ==== Proof.Best.lean ====
module

public import Idealize.ShloMosaic.PureOps.Ideal.Laws

/-!
# The first minimum of a row of distances

`Best e S r` says that `r` is the first place, among those of `S`, at which `e` is least. Two facts about it are
what both programs need: there is at most one such place, and the better of the two winners of two sets is the
winner of their union. A running minimum over a range is the case of sets grown one place at a time.
-/

@[expose] public section

namespace Cert.Proof.Arg

/-- `r` is in `S`, and every place of `S` has a greater value, or the same value and no smaller a number. -/
def Best (e : ℕ → EReal) (S : ℕ → Prop) (r : ℕ) : Prop :=
  S r ∧ ∀ n, S n → e r < e n ∨ (e r = e n ∧ r ≤ n)

/-- Two first minima of the same set are the same place. -/
theorem Best.unique {e : ℕ → EReal} {S : ℕ → Prop} {r r' : ℕ} (h : Best e S r) (h' : Best e S r') : r = r' := by
  rcases h.2 r' h'.1 with a | ⟨a, b⟩ <;> rcases h'.2 r h.1 with c | ⟨c, d⟩
  · exact absurd (a.trans c) (lt_irrefl _)
  · exact absurd (c ▸ a) (lt_irrefl _)
  · exact absurd (a ▸ c) (lt_irrefl _)
  · omega

/-- A first minimum depends only on which places are in the set. -/
theorem Best.congr {e : ℕ → EReal} {S S' : ℕ → Prop} {r : ℕ} (h : Best e S r) (hS : ∀ n, S n ↔ S' n) : Best e S' r :=
  ⟨(hS r).1 h.1, fun n hn => h.2 n ((hS n).2 hn)⟩

/-- If the winner of `S'` does not lose to the winner of `S`, it wins in the union. -/
theorem Best.right {e : ℕ → EReal} {S S' : ℕ → Prop} {x y : ℕ} (hx : Best e S x) (hy : Best e S' y)
    (h : e y < e x ∨ (e y = e x ∧ y ≤ x)) : Best e (fun n => S n ∨ S' n) y := by
  refine ⟨Or.inr hy.1, fun n hn => ?_⟩
  rcases hn with hn | hn
  · rcases h with h | ⟨h, h'⟩ <;> rcases hx.2 n hn with a | ⟨a, b⟩
    · exact Or.inl (h.trans a)
    · exact Or.inl (a ▸ h)
    · exact Or.inl (h ▸ a)
    · exact Or.inr ⟨h.trans a, h'.trans b⟩
  · exact hy.2 n hn

/-- If the winner of `S` does not lose to the winner of `S'`, it wins in the union. -/
theorem Best.left {e : ℕ → EReal} {S S' : ℕ → Prop} {x y : ℕ} (hx : Best e S x) (hy : Best e S' y)
    (h : e x < e y ∨ (e x = e y ∧ x ≤ y)) : Best e (fun n => S n ∨ S' n) x :=
  (hy.right hx h).congr fun _ => or_comm

/-- The only place of a one-place set is its first minimum. -/
theorem Best.single (e : ℕ → EReal) (r : ℕ) : Best e (fun n => n = r) r :=
  ⟨rfl, fun n hn => Or.inr ⟨by rw [hn], by rw [hn]⟩⟩

/-- A running minimum after `N` places: the least value, from the top, and where a strictly smaller value was
last met. -/
noncomputable def scan (g : ℕ → EReal) : ℕ → EReal × ℕ
  | 0 => (⊤, 0)
  | n + 1 => if g n < (scan g n).1 then (g n, n) else scan g n

/-- After at least one place, of values below the top, the running minimum is the first minimum so far. -/
theorem scan_best (g : ℕ → EReal) (hg : ∀ n, g n < ⊤) (N : ℕ) :
    (scan g (N + 1)).1 = g (scan g (N + 1)).2 ∧ Best g (fun n => n < N + 1) (scan g (N + 1)).2 := by
  induction N with
  | zero =>
    have : scan g (0 + 1) = (g 0, 0) := by simp [scan, hg 0]
    rw [this]
    exact ⟨rfl, (Best.single g 0).congr fun n => by omega⟩
  | succ N ih =>
    obtain ⟨h1, h2⟩ := ih
    rw [show scan g (N + 1 + 1) = if g (N + 1) < (scan g (N + 1)).1 then (g (N + 1), N + 1) else scan g (N + 1) from rfl]
    split
    · rename_i h
      refine ⟨rfl, (h2.right (Best.single g (N + 1)) (Or.inl (h1 ▸ h))).congr fun n => ?_⟩
      show (n < N + 1 ∨ n = N + 1) ↔ _
      omega
    · rename_i h
      refine ⟨h1, (h2.left (Best.single g (N + 1)) ?_).congr fun n => ?_⟩
      · rw [h1] at h
        rcases lt_or_eq_of_le (not_lt.1 h) with a | a
        · exact Or.inl a
        · exact Or.inr ⟨a, h2.1.le⟩
      · show (n < N + 1 ∨ n = N + 1) ↔ _
        omega

/-- The first minimum over every eighth place from `a`, read off the running minimum over those places. -/
theorem scan_row (e : ℕ → EReal) (he : ∀ n, e n < ⊤) {a : ℕ} (ha : a < 8) (N : ℕ) :
    (scan (fun T => e (T * 8 + a)) (N + 1)).1 = e ((scan (fun T => e (T * 8 + a)) (N + 1)).2 * 8 + a)
      ∧ Best e (fun n => n % 8 = a ∧ n < 8 * (N + 1)) ((scan (fun T => e (T * 8 + a)) (N + 1)).2 * 8 + a) := by
  obtain ⟨h1, h2⟩ := scan_best (fun T => e (T * 8 + a)) (fun _ => he _) N
  refine ⟨h1, ⟨by omega, by have := h2.1; omega⟩, fun n hn => ?_⟩
  have hn' : n / 8 * 8 + a = n := by omega
  rcases h2.2 (n / 8) (by omega) with h | ⟨h, h'⟩
  · simp only [hn'] at h; exact Or.inl h
  · simp only [hn'] at h; exact Or.inr ⟨h, by omega⟩

/-- A running minimum that has met no place, or a place below `N`, holds a number below `N`. -/
theorem scan_lt (g : ℕ → EReal) (N : ℕ) : (scan g (N + 1)).2 < N + 1 := by
  induction N with
  | zero =>
    rw [show scan g (0 + 1) = if g 0 < (⊤ : EReal) then (g 0, 0) else (⊤, 0) from rfl]
    split <;> exact Nat.one_pos
  | succ N ih =>
    rw [show scan g (N + 1 + 1) = if g (N + 1) < (scan g (N + 1)).1 then (g (N + 1), N + 1) else scan g (N + 1) from rfl]
    split
    · show N + 1 < _; omega
    · omega

end Cert.Proof.Arg

end
-- ==== Proof.Dist.lean ====
module

public import Idealize.ShloMosaic.PureOps.Ideal.Laws
public import Idealize.ShloMosaic.Lib.ValueIdx
public import Idealize.ShloMosaic.Lib.IdealHost

/-!
# A pixel's distances to the rows of the codebook, in extended reals

`qE` is a pixel after the 1x1 convolution, `fE` the same after its normalisation, `eR` the squared distance to a row
as the reference adds it up and `eK` as the kernel does. A normalised pixel is finite whatever the inputs, so the two
distances agree, and are finite, for every finite row.
-/

@[expose] public section

open scoped BigOperators

namespace Cert.Proof.Arg

open Idealize.ShloMosaic

/-- The smallest norm a pixel is divided by. -/
noncomputable def eps : EReal := Ideal.ofBits .f32 0x2B8CBCCC#32

/-- That smallest norm is a positive real. -/
theorem eps_real : ∃ r : ℝ, 0 < r ∧ eps = (r : EReal) := by
  refine ⟨_, ?_, by
    unfold eps
    simp [Ideal.ofBits, Ideal.ieee, -EReal.coe_mul]
    rfl⟩
  positivity

/-- The bit pattern `0xC0000000` is minus two. -/
theorem bits_neg_two : Ideal.ofBits .f32 0xC0000000#32 = ((-2 : ℝ) : EReal) := by
  simp [Ideal.ofBits, Ideal.ieee, -EReal.coe_mul, -EReal.coe_neg]; norm_num

/-- The bit pattern `0x40000000` is two. -/
theorem bits_two : Ideal.ofBits .f32 0x40000000#32 = ((2 : ℝ) : EReal) := by
  simp [Ideal.ofBits, Ideal.ieee, -EReal.coe_mul]; norm_num

/-- The bit pattern `0x7F800000` is the top. -/
theorem bits_top : Ideal.ofBits .f32 0x7F800000#32 = ⊤ := by
  simp [Ideal.ofBits, Ideal.ieee]

/-- A sum of finitely many reals, taken in the extended reals, is the real sum. -/
theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A square of an extended real is not negative. -/
theorem sq_nonneg' (x : EReal) : 0 ≤ x * x := by
  induction x using EReal.rec with
  | bot => simp
  | coe r => rw [← EReal.coe_mul]; exact EReal.coe_nonneg.2 (mul_self_nonneg r)
  | top => simp

/-- A pixel's coordinate over its norm, the norm taken no smaller than `eps`. -/
noncomputable def fE (q : Fin 64 → EReal) (c : Fin 64) : EReal :=
  Ideal.div (q c) (max (Ideal.sqrt (∑ k, q k * q k)) eps)

/-- Every coordinate of a normalised pixel is a real: where the pixel is not finite its norm is the top, and the
quotient is zero. -/
theorem fE_real (q : Fin 64 → EReal) : ∃ f : Fin 64 → ℝ, fE q = fun c => (f c : EReal) := by
  suffices h : ∀ c, ∃ r : ℝ, fE q c = (r : EReal) by
    choose f hf using h
    exact ⟨f, funext hf⟩
  intro c
  obtain ⟨ε, hε, he⟩ := eps_real
  by_cases hq : ∃ k, q k = ⊤ ∨ q k = ⊥
  · obtain ⟨k, hk⟩ := hq
    have hs : (∑ k, q k * q k) = ⊤ := by
      refine top_le_iff.1 (le_trans ?_ (Finset.single_le_sum (f := fun k => q k * q k) (fun k _ => sq_nonneg' (q k))
        (Finset.mem_univ k)))
      rcases hk with hk | hk <;> simp [hk]
    refine ⟨0, ?_⟩
    unfold fE
    rw [hs, show Ideal.sqrt (⊤ : EReal) = ⊤ from rfl, max_eq_left le_top]
    simp [Ideal.div]
  · push Not at hq
    have hr : ∀ k, ∃ r : ℝ, q k = (r : EReal) := fun k => by
      have := hq k
      generalize q k = x at this
      induction x using EReal.rec with
      | bot => exact absurd rfl this.2
      | coe r => exact ⟨r, rfl⟩
      | top => exact absurd rfl this.1
    choose r hr using hr
    have hs : (∑ k, q k * q k) = ((∑ k, r k * r k : ℝ) : EReal) := by
      simp only [hr, ← EReal.coe_mul, coe_sum]
    have hn : 0 ≤ ∑ k, r k * r k := Finset.sum_nonneg fun k _ => mul_self_nonneg _
    have hm : max (Ideal.sqrt (∑ k, q k * q k)) eps = ((max (Real.sqrt (∑ k, r k * r k)) ε : ℝ) : EReal) := by
      rw [hs, he]
      have : Ideal.sqrt ((∑ k, r k * r k : ℝ) : EReal) = ((Real.sqrt (∑ k, r k * r k) : ℝ) : EReal) := by
        show (if (∑ k, r k * r k) < 0 then (⊥ : EReal) else ((Real.sqrt (∑ k, r k * r k) : ℝ) : EReal)) = _
        rw [if_neg (not_lt.2 hn)]
      rw [this]
      exact (EReal.coe_strictMono.monotone.map_max).symm
    have hpos : 0 < max (Real.sqrt (∑ k, r k * r k)) ε := lt_max_of_lt_right hε
    refine ⟨r c * (max (Real.sqrt (∑ k, r k * r k)) ε)⁻¹, ?_⟩
    unfold fE
    rw [hm, hr c]
    generalize max (Real.sqrt (∑ k, r k * r k)) ε = m at hpos
    have hm0 : ((m : ℝ) : EReal) ≠ 0 := by
      intro h; exact hpos.ne' (by exact_mod_cast h)
    simp only [Ideal.div, if_neg hm0]
    rw [EReal.coe_mul, EReal.coe_inv]

/-- The squared distance of a pixel to a row, as the reference adds it up. -/
noncomputable def eR (f k : Fin 64 → EReal) : EReal :=
  ((∑ c, f c * f c) + ∑ c, k c * k c) - Ideal.ofBits .f32 0x40000000#32 * ∑ c, f c * k c

/-- The squared distance of a pixel to a row, as the kernel adds it up. -/
noncomputable def eK (f k : Fin 64 → EReal) : EReal :=
  ((∑ c, f c * f c) + ∑ c, k c * k c) + ∑ c, k c * (f c * Ideal.ofBits .f32 0xC0000000#32)

/-- The two distances of reals agree. -/
theorem eK_eq_eR (f k : Fin 64 → ℝ) : eK (fun c => f c) (fun c => k c) = eR (fun c => f c) (fun c => k c) := by
  unfold eK eR
  rw [bits_two, bits_neg_two]
  simp only [← EReal.coe_mul, coe_sum, ← EReal.coe_add, ← EReal.coe_sub]
  congr 1
  rw [sub_eq_add_neg, Finset.mul_sum, ← Finset.sum_neg_distrib]
  congr 1
  exact Finset.sum_congr rfl fun c _ => by ring

/-- The distance of reals is below the top. -/
theorem eR_lt_top (f k : Fin 64 → ℝ) : eR (fun c => f c) (fun c => k c) < ⊤ := by
  unfold eR
  rw [bits_two]
  simp only [← EReal.coe_mul, coe_sum, ← EReal.coe_add, ← EReal.coe_sub]
  exact EReal.coe_lt_top _

end Cert.Proof.Arg

end
-- ==== Proof.ArgRef.lean ====
module

public import proofs.«01_k».proof.Proof.Best
public import proofs.«01_k».proof.Proof.Dist
public import proofs.«01_k».proof.Proof.RefRun
public import Idealize.ShloMosaic.Lib.ValueLayout
public import Idealize.ShloMosaic.Lib.ValueLayoutCasts

/-!
# What the reference computes, entry by entry

Each array of the reference read at one entry: the convolved pixel, the normalised pixel, the distance to one row of the
codebook, the row number of the least distance, and the row taken.
-/

@[expose] public section

open scoped BigOperators

noncomputable section

namespace Cert.Proof.Arg

open Cert.ReferenceIdeal Cert.ReferenceIdeal.Gen
open Idealize.ShloMosaic Cert.Proof.Ref
open Idealize.ShloMosaic.ValueIdx

/-! ## The row number of the least distance -/

/-- One step of the reference's reduction, on pairs of a distance and a small row number: the smaller distance stays, and
at a tie the smaller number. -/
theorem reducer_step (e : ℕ → EReal) {m n : ℕ} (hm : m < 8192) (hn : n < 8192) :
    reducer_argmin_f32_i32 (F := Ideal) (e m, BitVec.ofNat 32 m) (e n, BitVec.ofNat 32 n)
      = if e m < e n ∨ (e m = e n ∧ m < n) then (e m, BitVec.ofNat 32 m) else (e n, BitVec.ofNat 32 n) := by
  have hs : (BitVec.ofNat 32 m).slt (BitVec.ofNat 32 n) = decide (m < n) := by
    rw [BitVec.slt, BitVec.toInt_eq_toNat_of_lt (by simp; omega), BitVec.toInt_eq_toNat_of_lt (by simp; omega)]
    simp only [BitVec.toNat_ofNat, Nat.cast_lt]
    rw [Nat.mod_eq_of_lt (by omega), Nat.mod_eq_of_lt (by omega)]
  show ((if BitVec.ofBool (decide (e m < e n)) ||| BitVec.ofBool (decide (e m ≠ e m)) = 1#1 then e m else e n),
    (if (BitVec.ofBool (decide (e m < e n)) ||| BitVec.ofBool (decide (e m ≠ e m))) ||| (BitVec.ofBool (decide (e m = e n))
      &&& BitVec.ofBool ((BitVec.ofNat 32 m).slt (BitVec.ofNat 32 n))) = 1#1 then BitVec.ofNat 32 m else BitVec.ofNat 32 n)) = _
  rw [hs]
  by_cases h1 : e m < e n <;> by_cases h2 : e m = e n <;> by_cases h3 : m < n <;> simp [h1, h2, h3]

/-- The first step: the initial pair gives way to any distance below the top. -/
theorem reducer_first (e : ℕ → EReal) {n : ℕ} (hn : e n < ⊤) :
    reducer_argmin_f32_i32 (F := Ideal) (⊤, 0#32) (e n, BitVec.ofNat 32 n) = (e n, BitVec.ofNat 32 n) := by
  show ((if BitVec.ofBool (decide ((⊤ : EReal) < e n)) ||| BitVec.ofBool (decide ((⊤ : EReal) ≠ ⊤)) = 1#1 then (⊤ : EReal) else e n),
    (if (BitVec.ofBool (decide ((⊤ : EReal) < e n)) ||| BitVec.ofBool (decide ((⊤ : EReal) ≠ ⊤))) ||| (BitVec.ofBool (decide ((⊤ : EReal) = e n))
      &&& BitVec.ofBool ((0#32).slt (BitVec.ofNat 32 n))) = 1#1 then 0#32 else BitVec.ofNat 32 n)) = _
  simp [hn.ne']

/-- The reduction over a list of rows, begun at the winner of a set, ends at the winner of the set with the list. -/
theorem reducer_fold (e : ℕ → EReal) (ns : List ℕ) (hns : ∀ n ∈ ns, n < 8192) :
    ∀ (S : ℕ → Prop) (m : ℕ), m < 8192 → Best e S m →
      ∃ r < 8192, (ns.map fun n => (e n, BitVec.ofNat 32 n)).foldl (reducer_argmin_f32_i32 (F := Ideal)) (e m, BitVec.ofNat 32 m)
        = (e r, BitVec.ofNat 32 r) ∧ Best e (fun n => S n ∨ n ∈ ns) r := by
  induction ns with
  | nil => exact fun S m hm h => ⟨m, hm, rfl, h.congr fun n => by simp⟩
  | cons n ns ih =>
    intro S m hm h
    have hn : n < 8192 := hns n List.mem_cons_self
    have ih := ih fun k hk => hns k (List.mem_cons_of_mem _ hk)
    rw [List.map_cons, List.foldl_cons, reducer_step e hm hn]
    split
    · rename_i hc
      obtain ⟨r, hr, h1, h2⟩ := ih (fun k => S k ∨ k = n) m hm (h.left (Best.single e n) (hc.imp_right fun h => ⟨h.1, h.2.le⟩))
      exact ⟨r, hr, h1, h2.congr fun k => by simp [or_assoc]⟩
    · rename_i hc
      push Not at hc
      obtain ⟨r, hr, h1, h2⟩ := ih (fun k => S k ∨ k = n) n hn (h.right (Best.single e n) (by
        rcases lt_or_eq_of_le hc.1 with a | a
        · exact Or.inl a
        · exact Or.inr ⟨a, hc.2 a.symm⟩))
      exact ⟨r, hr, h1, h2.congr fun k => by simp [or_assoc]⟩

/-- The reduction over all rows, from the initial pair, ends at their first minimum. -/
theorem reducer_all (e : ℕ → EReal) (he : ∀ n, e n < ⊤) (ns : List ℕ) (hns : ∀ n, n ∈ ns ↔ n < 8192) :
    ∃ r < 8192, (ns.map fun n => (e n, BitVec.ofNat 32 n)).foldl (reducer_argmin_f32_i32 (F := Ideal)) (⊤, 0#32)
      = (e r, BitVec.ofNat 32 r) ∧ Best e (fun n => n < 8192) r := by
  cases ns with
  | nil => exact absurd ((hns 0).2 (by omega)) List.not_mem_nil
  | cons n ns =>
    have hn : n < 8192 := (hns n).1 List.mem_cons_self
    rw [List.map_cons, List.foldl_cons, reducer_first e (he n)]
    obtain ⟨r, hr, h1, h2⟩ := reducer_fold e ns (fun k hk => (hns k).1 (List.mem_cons_of_mem _ hk)) _ n hn (Best.single e n)
    exact ⟨r, hr, h1, h2.congr fun k => by rw [← hns k, List.mem_cons]⟩

/-- The indices a reduction's result at `j` is made of, in row-major order. -/
def fiberOf {s t : Shape} {axes : List (Fin s.rank)} (h : s.ReducesTo axes t) (j : t.Idx) : List s.Idx :=
  ((List.finRange s.numel).filter fun n => h.drop (s.rowMajor.symm n) = j).map s.rowMajor.symm

/-- They are the indices the reduction sends to `j`. -/
theorem mem_fiberOf {s t : Shape} {axes : List (Fin s.rank)} (h : s.ReducesTo axes t) (j : t.Idx) (i : s.Idx) :
    i ∈ fiberOf h j ↔ h.drop i = j := by
  constructor
  · intro hi
    obtain ⟨n, hn, rfl⟩ := List.mem_map.1 hi
    exact of_decide_eq_true (List.mem_filter.1 hn).2
  · intro hi
    refine List.mem_map.2 ⟨s.rowMajor i, List.mem_filter.2 ⟨List.mem_finRange _, ?_⟩, Equiv.symm_apply_apply _ _⟩
    rw [Equiv.symm_apply_apply]
    exact decide_eq_true hi

/-- The pairs a two-operand reduction folds over, where each is a function of a number its index gives. -/
theorem fiberOf_map {s t : Shape} {axes : List (Fin s.rank)} {α β γ : Type} (x : s.Idx → α) (y : s.Idx → β) (h : s.ReducesTo axes t)
    (j : t.Idx) (g : s.Idx → γ) (f : γ → α × β) (hf : ∀ i, h.drop i = j → (x i, y i) = f (g i)) :
    Host.argReduceFiber x y h j = ((fiberOf h j).map g).map f := by
  unfold Host.argReduceFiber fiberOf
  rw [List.map_map, List.map_map]
  exact List.map_congr_left fun n hn => hf _ (of_decide_eq_true (List.mem_filter.1 hn).2)

/-- A two-operand reduction with a known list of pairs and known initial values: the index its fold over that list ends at. -/
theorem second_of {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel) (j : t.Idx)
    {l : List (Ideal .f32 × BitVec 32)} {a : Ideal .f32} {b : BitVec 32} (hl : Host.argReduceFiber x y h j = l) (ha : ∀ k, ix k = a) (hb : ∀ k, iy k = b) :
    second f x y ix iy h hu j = (l.foldl f (a, b)).2 := by
  unfold second
  rw [Ideal.argReduce_eq_reduce2, Host.reduce2_eq_foldl_fiber, hl, ha, hb]

/-- A row of the distances is what the reduction of that row is made of. -/
theorem drop_row (i : S8192x8192.Idx) (P : Fin 8192) : (reducesTo_S8192x8192_S8192_d1).drop i = ix1 P ↔ (i 0).val = P.val := by
  constructor
  · intro h; exact congrArg (fun k : S8192.Idx => (k 0).val) h
  · intro h
    funext a
    match a with | ⟨0, _⟩ => exact Fin.ext h

/-- The places of row `P`'s entries are the numbers below 8192. -/
theorem row_places (P : Fin 8192) (n : ℕ) :
    n ∈ (fiberOf reducesTo_S8192x8192_S8192_d1 (ix1 P)).map (fun i : S8192x8192.Idx => (i 1).val) ↔ n < 8192 := by
  constructor
  · intro h
    obtain ⟨i, -, rfl⟩ := List.mem_map.1 h
    exact (i 1).isLt
  · intro h
    exact List.mem_map.2 ⟨ix2 P ⟨n, h⟩, (mem_fiberOf _ _ _).2 ((drop_row _ _).2 rfl), rfl⟩

/-- The pairs the reduction of row `P` folds over. -/
theorem row_pairs (d : Vec Ideal S8192x8192 .f32) (P : Fin 8192) (e : ℕ → EReal) (hd : ∀ r : Fin 8192, d (ix2 P r) = e r.val) :
    Host.argReduceFiber d (iotaInDim S8192x8192 32 1) reducesTo_S8192x8192_S8192_d1 (ix1 P)
      = ((fiberOf reducesTo_S8192x8192_S8192_d1 (ix1 P)).map (fun i : S8192x8192.Idx => (i 1).val)).map fun n => (e n, BitVec.ofNat 32 n) := by
  refine fiberOf_map d _ _ _ _ (fun n => (e n, BitVec.ofNat 32 n)) fun i hi => ?_
  have h0 := (drop_row i P).1 hi
  have hi' : i = ix2 P (i 1) := by
    funext a
    match a with
    | ⟨0, _⟩ => exact Fin.ext h0
    | ⟨1, _⟩ => rfl
  have h1 : d i = e (i 1).val := (congrArg d hi').trans (hd (i 1))
  rw [h1, iotaInDim_apply]

/-- The row number the reference finds for pixel `P` is the first minimum of the pixel's distances, if all are below the
top. -/
theorem amin_best (d : Vec Ideal S8192x8192 .f32) (P : Fin 8192) (e : ℕ → EReal) (he : ∀ n, e n < ⊤)
    (hd : ∀ r : Fin 8192, d (ix2 P r) = e r.val) :
    ∃ r < 8192, amin d (ix1 P) = BitVec.ofNat 32 r ∧ Best e (fun n => n < 8192) r := by
  obtain ⟨r, hr, h1, h2⟩ := reducer_all e he _ (row_places P)
  refine ⟨r, hr, ?_, h2⟩
  have key := second_of reducer_argmin_f32_i32 d (iotaInDim S8192x8192 32 1) (constant S_ .f32 0x7F800000#32) (constantI S_ 32 0#32)
    reducesTo_S8192x8192_S8192_d1 h_S_ (ix1 P) (a := ⊤) (b := 0#32) (row_pairs d P e hd) (fun _ => bits_top) (fun _ => rfl)
  rw [h1] at key
  exact key

/-! ## The distances -/

/-- A contraction over one axis is the sum over that axis's coordinate. -/
theorem dot_sum {sl sr so : Shape} (D : DotDims sl sr so) (n : ℕ) (hr : D.contr.rank = 1) (hs : D.contr.size ⟨0, by omega⟩ = n)
    (l : sl.Idx → EReal) (r : sr.Idx → EReal) (j : so.Idx) (L : Fin n → sl.Idx) (R : Fin n → sr.Idx)
    (hl : ∀ k, D.lhsIdx j k = L (contrEquiv1 D n hr hs k)) (hr' : ∀ k, D.rhsIdx j k = R (contrEquiv1 D n hr hs k)) :
    ∑ k : D.contr.Idx, l (D.lhsIdx j k) * r (D.rhsIdx j k) = ∑ k : Fin n, l (L k) * r (R k) :=
  Fintype.sum_equiv (contrEquiv1 D n hr hs) _ _ fun k => by rw [hl, hr']

/-- A pixel's coordinate after the convolution: pixel `(h, v)` of image `n`, the row of that pixel in row-major order. -/
theorem pix_apply (x : Vec Ideal S8x64x32x32 .f32) (w : Vec Ideal S64x64 .f32) (b : Vec Ideal S64 .f32) (n : Fin 8) (h v : Fin 32) (P : Fin 8192)
    (hP : P.val = (n.val * 32 + h.val) * 32 + v.val) (c : Fin 64) :
    pix x w b (ix2 P c) = (∑ k : Fin 64, x (ix4 n k h v) * w (ix2 c k)) + b (ix1 c) := by
  unfold pix
  rw [shapeCast_apply _ _ _ (ix4 n h v c) (by
    rw [Shape.rowMajor_val_four, Shape.rowMajor_val_two]
    show ((n.val * 32 + h.val) * 32 + v.val) * 64 + c.val = P.val * 64 + c.val
    rw [hP])]
  rw [transpose_apply _ _ _ _ (ix4 n c h v) (fun a => match a with | ⟨0, _⟩ => rfl | ⟨1, _⟩ => rfl | ⟨2, _⟩ => rfl | ⟨3, _⟩ => rfl)]
  rw [addf_apply]
  congr 1
  · rw [transpose_apply _ _ _ _ (ix4 n h v c) (fun a => match a with | ⟨0, _⟩ => rfl | ⟨1, _⟩ => rfl | ⟨2, _⟩ => rfl | ⟨3, _⟩ => rfl)]
    refine (Ideal.dotGeneral_apply _ _ _ _ _ _).trans ?_
    exact dot_sum dot_S8x64x32x32_S64x64_S8x32x32x64_1_1_023_0_n_n 64 rfl rfl _ _ _ (fun k => ix4 n k h v) (fun k => ix2 c k)
      (fun k => by funext a; match a with | ⟨0, _⟩ => rfl | ⟨1, _⟩ => rfl | ⟨2, _⟩ => rfl | ⟨3, _⟩ => rfl)
      (fun k => by funext a; match a with | ⟨0, _⟩ => rfl | ⟨1, _⟩ => rfl)
  · rw [broadcastInDim_apply _ _ _ _ (ix4 (0 : Fin 1) c (0 : Fin 1) (0 : Fin 1))
      (fun a => match a with | ⟨0, _⟩ => rfl | ⟨1, _⟩ => rfl | ⟨2, _⟩ => rfl | ⟨3, _⟩ => rfl)]
    rw [broadcastInDim_apply _ _ _ _ (ix1 c) (fun a => match a with | ⟨0, _⟩ => rfl)]

/-- The sum of a matrix's columns at a row. -/
theorem rowSum_apply (v : FVec Ideal S8192x64 .f32) (P : Fin 8192) :
    Host.reduceAdd v (constant S_ .f32 0x00000000#32) reducesTo_S8192x64_S8192_d1 h_S_ (ix1 P) = ∑ k : Fin 64, v (ix2 P k) := by
  rw [hostReduceAdd_apply, Ideal.hostReduceAdd_single _ (by decide : S8192x64.Reduces [1] S8192)]
  rw [show (constant S_ .f32 0x00000000#32 (Shape.Idx.first h_S_) : Ideal .f32) = 0 from Ideal.ofBits_zero_f32, zero_add]
  refine Finset.sum_congr rfl fun k _ => congrArg v ?_
  funext a; match a with | ⟨0, _⟩ => rfl | ⟨1, _⟩ => rfl

/-- The host's square root, read at an index. -/
theorem hostSqrt_apply {s : Shape} (x : FVec Ideal s .f32) (i : s.Idx) : Host.sqrt x i = Ideal.sqrt (x i) := rfl

/-- A row's norm, taken no smaller than `eps`. -/
theorem norm_apply (q : Vec Ideal S8192x64 .f32) (P : Fin 8192) :
    maximumf (F := Ideal) (Host.sqrt (broadcastInDim S8192x1 ![0] bcast_S8192_S8192x1_0
        (Host.reduceAdd (mulf q q) (constant S_ .f32 0x00000000#32) reducesTo_S8192x64_S8192_d1 h_S_)))
      (broadcastInDim S8192x1 ![] bcast_S_S8192x1 (constant S_ .f32 0x2B8CBCCC#32)) (ix2 P (0 : Fin 1))
      = max (Ideal.sqrt (∑ k : Fin 64, q (ix2 P k) * q (ix2 P k))) eps := by
  rw [maximumf_apply]
  refine congrArg₂ (fun a b : EReal => max a b) ?_ ?_
  · rw [hostSqrt_apply, broadcastInDim_apply _ _ _ _ (ix1 P) (fun a => match a with | ⟨0, _⟩ => rfl), rowSum_apply]
    rfl
  · rfl

/-- A normalised pixel's coordinate. -/
theorem nrm_apply (q : Vec Ideal S8192x64 .f32) (P : Fin 8192) (c : Fin 64) : nrm q (ix2 P c) = fE (fun k => q (ix2 P k)) c := by
  unfold nrm
  rw [hostDivf_apply, broadcastInDim_apply _ _ _ _ (ix2 P (0 : Fin 1)) (fun a => match a with | ⟨0, _⟩ => rfl | ⟨1, _⟩ => rfl), norm_apply]
  rfl

/-- A pixel's distance to a row, as the reference adds it up. -/
theorem dst_apply (f cb : Vec Ideal S8192x64 .f32) (P r : Fin 8192) :
    dst f cb (ix2 P r) = eR (fun c => f (ix2 P c)) (fun c => cb (ix2 r c)) := by
  unfold dst eR
  rw [subf_apply, addf_apply, mulf_apply]
  refine congrArg₂ (fun a b : EReal => a - b) (congrArg₂ (fun a b : EReal => a + b) ?_ ?_) (congrArg₂ (fun a b : EReal => a * b) ?_ ?_)
  · rw [broadcastInDim_apply _ _ _ _ (ix2 P (0 : Fin 1)) (fun a => match a with | ⟨0, _⟩ => rfl | ⟨1, _⟩ => rfl),
      broadcastInDim_apply _ _ _ _ (ix1 P) (fun a => match a with | ⟨0, _⟩ => rfl), rowSum_apply]
    rfl
  · rw [broadcastInDim_apply _ _ _ _ (ix2 (0 : Fin 1) r) (fun a => match a with | ⟨0, _⟩ => rfl | ⟨1, _⟩ => rfl),
      broadcastInDim_apply _ _ _ _ (ix1 r) (fun a => match a with | ⟨0, _⟩ => rfl), rowSum_apply]
    rfl
  · rfl
  · refine (Ideal.dotGeneral_apply _ _ _ _ _ _).trans ?_
    rw [dot_sum dot_S8192x64_S64x8192_S8192x8192_1_0_0_1_n_n 64 rfl rfl _ _ _ (fun k => ix2 P k) (fun k => ix2 k r)
      (fun k => by funext a; match a with | ⟨0, _⟩ => rfl | ⟨1, _⟩ => rfl)
      (fun k => by funext a; match a with | ⟨0, _⟩ => rfl | ⟨1, _⟩ => rfl)]
    exact Finset.sum_congr rfl fun k _ => by rw [transpose_ix2_apply]

/-! ## The row taken -/

/-- A row number in range is not counted from the end. -/
theorem wrap_apply (i : Vec Ideal S8192 .i32) (P : Fin 8192) {r : ℕ} (hr : r < 8192) (hi : i (ix1 P) = BitVec.ofNat 32 r) :
    wrap (F := Ideal) i (ix2 P (0 : Fin 1)) = BitVec.ofNat 32 r := by
  unfold wrap
  rw [broadcastInDim_apply _ _ _ _ (ix1 P) (fun a => match a with | ⟨0, _⟩ => rfl)]
  show (if BitVec.ofBool ((i (ix1 P)).slt 0#32) = 1#1 then _ else i (ix1 P)) = _
  rw [hi]
  have : (BitVec.ofNat 32 r).slt 0#32 = false := by
    rw [BitVec.slt, BitVec.toInt_eq_toNat_of_lt (by simp; omega)]
    exact decide_eq_false (not_lt.2 (Int.natCast_nonneg _))
  rw [this]
  rfl

/-- The conjunction over a list of true bits, from a true bit, is a true bit. -/
theorem and_fold {α : Type} (l : List α) (x : α → BitVec 1) (h : ∀ a ∈ l, x a = 1#1) : l.foldl (fun r a => IntOp.andi r (x a)) 1#1 = 1#1 := by
  induction l with
  | nil => rfl
  | cons a l ih =>
    rw [List.foldl_cons, h a List.mem_cons_self]
    exact ih fun b hb => h b (List.mem_cons_of_mem _ hb)

/-- The row taken for a pixel whose row number is in range is that row of the codebook. -/
theorem tak_apply (cb : Vec Ideal S8192x64 .f32) (i : Vec Ideal S8192 .i32) (P : Fin 8192) (c : Fin 64) {r : ℕ} (hr : r < 8192)
    (hi : i (ix1 P) = BitVec.ofNat 32 r) : tak cb i (ix2 P c) = cb (ix2 (⟨r, hr⟩ : Fin 8192) c) := by
  have hw := wrap_apply i P hr hi
  have hu : ∀ k : S8192x1.Idx, (reducesTo_S8192x1_S8192_d1).drop k = ix1 P → k = ix2 P (0 : Fin 1) := by
    intro k hk
    have h0 : (k 0).val = P.val := congrArg (fun k : S8192.Idx => (k 0).val) hk
    funext a
    match a with
    | ⟨0, _⟩ => exact Fin.ext h0
    | ⟨1, _⟩ => exact Fin.ext (by have := (k 1).isLt; change (k 1).val < 1 at this; show (k 1).val = 0; omega)
  have hi' : (BitVec.ofNat 32 r).toInt = r := by
    rw [BitVec.toInt_eq_toNat_of_lt (by simp; omega)]
    simp only [BitVec.toNat_ofNat]
    rw [Nat.mod_eq_of_lt (by omega)]
  unfold tak
  have hm : broadcastInDim S8192x64 ![0] bcast_S8192_S8192x64_0
      (Host.reduce IntOp.andi
        (andi (cmpi .sge (wrap (F := Ideal) i) (broadcastInDim S8192x1 ![] bcast_S_S8192x1 (constantI S_ 32 0#32)))
          (cmpi .sle (wrap (F := Ideal) i) (broadcastInDim S8192x1 ![0, 1] bcast_S1x1_S8192x1_0_1 (broadcastInDim S1x1 ![1] bcast_S1_S1x1_1 (constantI S1 32 8191#32)))))
        (constantI S_ 1 1#1) reducesTo_S8192x1_S8192_d1 h_S_) (ix2 P c) = 1#1 := by
    rw [broadcastInDim_apply _ _ _ _ (ix1 P) (fun a => match a with | ⟨0, _⟩ => rfl)]
    unfold Host.reduce
    refine and_fold _ _ fun n hn => ?_
    have hk := hu _ (of_decide_eq_true (List.mem_filter.1 hn).2)
    rw [hk]
    show BitVec.ofBool ((0#32).sle (wrap (F := Ideal) i (ix2 P (0 : Fin 1)))) &&& BitVec.ofBool ((wrap (F := Ideal) i (ix2 P (0 : Fin 1))).sle 8191#32) = 1#1
    rw [hw, BitVec.sle, BitVec.sle, hi']
    have h8 : (8191#32).toInt = 8191 := by decide
    have h0 : (0#32).toInt = 0 := by decide
    rw [h8, h0]
    have a1 : ((0 : ℤ) ≤ (r : ℤ)) := by omega
    have a2 : ((r : ℤ) ≤ 8191) := by omega
    simp [a1, a2]
  rw [select_apply, hm, select_one]
  unfold Host.gather
  refine congrArg cb (funext fun a => Fin.ext ?_)
  match a with
  | ⟨0, _⟩ =>
    show gather_S8192x64_S8192x1_S8192x64_1_0_n_n_0_1_164.start (ix2 P c) (wrap (F := Ideal) i) 0
      + gather_S8192x64_S8192x1_S8192x64_1_0_n_n_0_1_164.batchCoord (ix2 P c) 0
      + gather_S8192x64_S8192x1_S8192x64_1_0_n_n_0_1_164.offCoord (ix2 P c) 0 = r
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x64_S8192x1_S8192x64_1_0_n_n_0_1_164.startIndexMap from List.mem_singleton.mpr rfl)]
    have hsi : gather_S8192x64_S8192x1_S8192x64_1_0_n_n_0_1_164.siIdx (ix2 P c)
        ⟨List.idxOf (0 : Fin 2) gather_S8192x64_S8192x1_S8192x64_1_0_n_n_0_1_164.startIndexMap,
          List.idxOf_lt_length_iff.2 (List.mem_singleton.mpr rfl)⟩ = ix2 P (0 : Fin 1) := by
      funext b
      refine Fin.ext ?_
      match b with
      | ⟨0, _⟩ => rfl
      | ⟨1, _⟩ => rfl
    rw [hsi, hw, hi']
    show min (r : ℤ).toNat (8192 - 1) = r
    omega
  | ⟨1, _⟩ =>
    show gather_S8192x64_S8192x1_S8192x64_1_0_n_n_0_1_164.start (ix2 P c) (wrap (F := Ideal) i) 1
      + gather_S8192x64_S8192x1_S8192x64_1_0_n_n_0_1_164.batchCoord (ix2 P c) 1
      + gather_S8192x64_S8192x1_S8192x64_1_0_n_n_0_1_164.offCoord (ix2 P c) 1 = c.val
    rw [GatherDims.batchCoord_eq_zero _ _ _ List.not_mem_nil]
    unfold GatherDims.start
    rw [dif_neg (show (1 : Fin 2) ∉ gather_S8192x64_S8192x1_S8192x64_1_0_n_n_0_1_164.startIndexMap by
      intro h; exact absurd (List.mem_singleton.1 h) (by decide))]
    rw [Nat.add_zero, Nat.zero_add]
    rfl

/-- The result's layout: images, channels first. -/
theorem lay_apply (t : Vec Ideal S8192x64 .f32) (n : Fin 8) (c : Fin 64) (h v : Fin 32) (P : Fin 8192)
    (hP : P.val = (n.val * 32 + h.val) * 32 + v.val) : lay t (ix4 n c h v) = t (ix2 P c) := by
  unfold lay
  rw [transpose_apply _ _ _ _ (ix4 n h v c) (fun a => match a with | ⟨0, _⟩ => rfl | ⟨1, _⟩ => rfl | ⟨2, _⟩ => rfl | ⟨3, _⟩ => rfl)]
  refine shapeCast_apply _ _ _ _ ?_
  rw [Shape.rowMajor_val_four, Shape.rowMajor_val_two]
  show P.val * 64 + c.val = ((n.val * 32 + h.val) * 32 + v.val) * 64 + c.val
  rw [hP]

end Cert.Proof.Arg

end

end
-- ==== Proof.ArgScan.lean ====
module

public import proofs.«01_k».proof.Proof.Best
public import proofs.«01_k».proof.Proof.Dist
public import proofs.«01_k».proof.Proof.TcStep
public import Idealize.ShloMosaic.Lib.ValueLayout
public import Idealize.ShloMosaic.Lib.ValueLayoutCasts

/-!
# What the accumulators and the tournament compute

Over the extended reals, one entry of the TensorCore kernel's two accumulators is the running minimum of the distances
met so far, and the three halving rounds of its tournament pick the first minimum over all 8192 rows.
-/

@[expose] public section

noncomputable section

namespace Cert.Proof.Arg

open Cert.KernelIdeal Cert.KernelIdeal.Gen
open Idealize.ShloMosaic Cert.Proof.Tc
open Idealize.ShloMosaic.ValueIdx

/-- A choice by a strict comparison, read at an index. -/
theorem select_olt_apply {s : Shape} {α : Type} (x y : FVec Ideal s .f32) (a b : s.Idx → α) (i : s.Idx) :
    select (cmpf .olt x y) a b i = if x i < y i then a i else b i := by
  show (if BitVec.ofBool (decide (x i < y i)) = 1#1 then a i else b i) = _
  by_cases h : x i < y i <;> simp [h]

/-- One entry of the accumulators after some steps over a chunk is the running minimum so far. -/
theorem acc_scan (n2 : FVec Ideal S1x1024 .f32) (S : FVec Ideal S1024x1024 .f32) (C : FVec Ideal S1024x1 .f32) (d₀ : FVec Ideal S8x1024 .f32)
    (t₀ : IVec S8x1024 32) (g : ℕ → EReal) (i : S8x1024.Idx) (N : ℕ) (hd : ∀ t < 128, dist n2 S C (8 * t) i = g (N + t))
    (h1 : d₀ i = (scan g N).1) (h2 : t₀ i = BitVec.ofNat 32 (scan g N).2) (t : ℕ) (ht : t ≤ 128) :
    accD n2 S C d₀ t i = (scan g (N + t)).1 ∧ accT n2 S C d₀ (BitVec.ofNat 32 N) t₀ t i = BitVec.ofNat 32 (scan g (N + t)).2 := by
  induction t with
  | zero => exact ⟨h1, h2⟩
  | succ t ih =>
    obtain ⟨i1, i2⟩ := ih (by omega)
    have e : scan g (N + (t + 1)) = if g (N + t) < (scan g (N + t)).1 then (g (N + t), N + t) else scan g (N + t) := rfl
    constructor
    · refine (select_olt_apply _ _ _ _ i).trans ?_
      rw [hd t (by omega), i1, e]
      split <;> rfl
    · refine (select_olt_apply _ _ _ _ i).trans ?_
      rw [hd t (by omega), i1, e, i2]
      split
      · show BitVec.ofNat 32 N + BitVec.ofNat 32 t = BitVec.ofNat 32 (N + t)
        rw [BitVec.ofNat_add]
      · rfl

/-- One entry of the accumulators after some chunks is the running minimum so far. -/
theorem chunk_scan (f : FVec Ideal S64x1024 .f32) (cb : ℕ → Vec Ideal S1024x64 .f32) (g : ℕ → EReal) (i : S8x1024.Idx)
    (hd : ∀ n < 8, ∀ t < 128, dist (n2V f) (sV (m2V f) (cb n)) (cV (cb n)) (8 * t) i = g (128 * n + t)) (n : ℕ) (hn : n ≤ 8) :
    chunkD f cb n i = (scan g (128 * n)).1 ∧ chunkT f cb n i = BitVec.ofNat 32 (scan g (128 * n)).2 := by
  induction n with
  | zero => exact ⟨bits_top, rfl⟩
  | succ n ih =>
    obtain ⟨i1, i2⟩ := ih (by omega)
    exact acc_scan (n2V f) (sV (m2V f) (cb n)) (cV (cb n)) (chunkD f cb n) (chunkT f cb n) g i (128 * n) (hd n (by omega)) i1 i2 128 le_rfl

/-- At an index, a value array and a row array hold the first minimum over a set of rows, and its number. -/
def Won (e : ℕ → EReal) {s : Shape} (v : FVec Ideal s .f32) (r : IVec s 32) (i : s.Idx) (S : ℕ → Prop) : Prop :=
  ∃ n < 8192, v i = e n ∧ r i = BitVec.ofNat 32 n ∧ Best e S n

/-- Two small numbers compare as words as they do as numbers. -/
theorem slt_ofNat {m n : ℕ} (hm : m < 8192) (hn : n < 8192) : (BitVec.ofNat 32 m).slt (BitVec.ofNat 32 n) = decide (m < n) := by
  rw [BitVec.slt, BitVec.toInt_eq_toNat_of_lt (by simp; omega), BitVec.toInt_eq_toNat_of_lt (by simp; omega)]
  simp only [BitVec.toNat_ofNat, Nat.cast_lt]
  rw [Nat.mod_eq_of_lt (by omega), Nat.mod_eq_of_lt (by omega)]

/-- The better of two winners, as the kernel chooses it, wins in the union. -/
theorem Won.pick {e : ℕ → EReal} {s : Shape} {va vb : FVec Ideal s .f32} {ra rb : IVec s 32} {i : s.Idx} {S S' : ℕ → Prop}
    (ha : Won e va ra i S) (hb : Won e vb rb i S') :
    Won e (select (wins va vb ra rb) vb va) (select (wins va vb ra rb) rb ra) i (fun n => S n ∨ S' n) := by
  obtain ⟨m, hm, av, ar, am⟩ := ha
  obtain ⟨n, hn, bv, br, bn⟩ := hb
  have hw : (wins va vb ra rb) i = BitVec.ofBool (decide (e n < e m ∨ (e n = e m ∧ n < m))) := by
    show BitVec.ofBool (decide (vb i < va i)) ||| (BitVec.ofBool (decide (vb i = va i)) &&& BitVec.ofBool ((rb i).slt (ra i))) = _
    rw [av, bv, ar, br, slt_ofNat hn hm]
    by_cases h1 : e n < e m <;> by_cases h2 : e n = e m <;> by_cases h3 : n < m <;> simp [h1, h2, h3]
  have hs : ∀ {α : Type} (x y : s.Idx → α), select (wins va vb ra rb) x y i = if e n < e m ∨ (e n = e m ∧ n < m) then x i else y i := by
    intro α x y
    show (if (wins va vb ra rb) i = 1#1 then x i else y i) = _
    rw [hw]
    by_cases h : e n < e m ∨ (e n = e m ∧ n < m) <;> simp [h]
  by_cases h : e n < e m ∨ (e n = e m ∧ n < m)
  · refine ⟨n, hn, by rw [hs, if_pos h, bv], by rw [hs, if_pos h, br], am.right bn ?_⟩
    rcases h with h | ⟨h, h'⟩
    · exact Or.inl h
    · exact Or.inr ⟨h, h'.le⟩
  · refine ⟨m, hm, by rw [hs, if_neg h, av], by rw [hs, if_neg h, ar], am.left bn ?_⟩
    push Not at h
    rcases lt_or_eq_of_le h.1 with a | a
    · exact Or.inl a
    · exact Or.inr ⟨a, h.2 a.symm⟩

/-- A halving round: the upper half of the rows of the two arrays against the lower half. -/
theorem Won.round {e : ℕ → EReal} {M m : ℕ} (hM : M = 2 * m) (hmod : ∀ n a, a < m → ((n % M = a ∨ n % M = m + a) ↔ n % m = a))
    {v : FVec Ideal ⟨2, ![M, 1024]⟩ .f32} {r : IVec ⟨2, ![M, 1024]⟩ 32} (p : Fin 1024)
    (h : ∀ a : Fin M, Won e v r (ix2 a p) (fun n => n % M = a.val ∧ n < 8192))
    (s0 : (⟨2, ![M, 1024]⟩ : Shape).Slices ![0, 0] ⟨2, ![m, 1024]⟩) (s1 : (⟨2, ![M, 1024]⟩ : Shape).Slices ![m, 0] ⟨2, ![m, 1024]⟩) (a : Fin m) :
    Won e
      (select (wins (extractStridedSlice ⟨2, ![m, 1024]⟩ ![0, 0] v s0) (extractStridedSlice ⟨2, ![m, 1024]⟩ ![m, 0] v s1)
        (extractStridedSlice ⟨2, ![m, 1024]⟩ ![0, 0] r s0) (extractStridedSlice ⟨2, ![m, 1024]⟩ ![m, 0] r s1))
        (extractStridedSlice ⟨2, ![m, 1024]⟩ ![m, 0] v s1) (extractStridedSlice ⟨2, ![m, 1024]⟩ ![0, 0] v s0))
      (select (wins (extractStridedSlice ⟨2, ![m, 1024]⟩ ![0, 0] v s0) (extractStridedSlice ⟨2, ![m, 1024]⟩ ![m, 0] v s1)
        (extractStridedSlice ⟨2, ![m, 1024]⟩ ![0, 0] r s0) (extractStridedSlice ⟨2, ![m, 1024]⟩ ![m, 0] r s1))
        (extractStridedSlice ⟨2, ![m, 1024]⟩ ![m, 0] r s1) (extractStridedSlice ⟨2, ![m, 1024]⟩ ![0, 0] r s0))
      (ix2 a p) (fun n => n % m = a.val ∧ n < 8192) := by
  have sl : ∀ (o : ℕ) (so : (⟨2, ![M, 1024]⟩ : Shape).Slices ![o, 0] ⟨2, ![m, 1024]⟩) (b : Fin M), b.val = o + a.val →
      Won e (extractStridedSlice ⟨2, ![m, 1024]⟩ ![o, 0] v so) (extractStridedSlice ⟨2, ![m, 1024]⟩ ![o, 0] r so) (ix2 a p)
        (fun n => n % M = b.val ∧ n < 8192) := by
    intro o so b hb
    have hk : ∀ {α : Type} (x : (⟨2, ![M, 1024]⟩ : Shape).Idx → α), extractStridedSlice ⟨2, ![m, 1024]⟩ ![o, 0] x so (ix2 a p) = x (ix2 b p) := by
      intro α x
      show x _ = x _
      congr 1
      funext c
      match c with
      | ⟨0, _⟩ => exact Fin.ext hb.symm
      | ⟨1, _⟩ => exact Fin.ext (Nat.zero_add _)
    obtain ⟨n, hn, h1, h2, h3⟩ := h b
    exact ⟨n, hn, (hk v).trans h1, (hk r).trans h2, h3⟩
  obtain ⟨n, hn, h1, h2, h3⟩ := (sl 0 s0 ⟨a.val, by omega⟩ (Nat.zero_add _).symm).pick (sl m s1 ⟨m + a.val, by omega⟩ rfl)
  refine ⟨n, hn, h1, h2, h3.congr fun k => ?_⟩
  have := hmod k a.val a.isLt
  show (k % M = a.val ∧ k < 8192 ∨ k % M = m + a.val ∧ k < 8192) ↔ _
  rw [← or_and_right, this]

/-- If every row of the accumulators holds the first minimum over its share of the codebook, the row number stored for a
pixel is the first minimum over the whole codebook. -/
theorem rowOut_best {e : ℕ → EReal} (v : FVec Ideal S8x1024 .f32) (t : IVec S8x1024 32) (p : Fin 1024) (T : Fin 8 → ℕ)
    (hT : ∀ a, T a < 1024) (hv : ∀ a, v (ix2 a p) = e (T a * 8 + a.val)) (ht : ∀ a, t (ix2 a p) = BitVec.ofNat 32 (T a))
    (hb : ∀ a : Fin 8, Best e (fun n => n % 8 = a.val ∧ n < 8192) (T a * 8 + a.val)) :
    ∃ n < 8192, rowOut v t (ix3 0 0 p) = BitVec.ofNat 32 n ∧ Best e (fun n => n < 8192) n := by
  have h8 : ∀ a : Fin 8, Won e v (addi (muli t (broadcast S8x1024 8#32)) (iota .tc S8x1024 32 [0] iota_S8x1024_d0_w32)) (ix2 a p)
      (fun n => n % 8 = a.val ∧ n < 8192) := by
    intro a
    refine ⟨_, (hb a).1.2, hv a, ?_, hb a⟩
    have hi : iota .tc S8x1024 32 [0] iota_S8x1024_d0_w32 (ix2 a p) = BitVec.ofNat 32 a.val := by
      show BitVec.ofNat 32 (0 * 8 + a.val) = _
      rw [Nat.zero_mul, Nat.zero_add]
    show t (ix2 a p) * 8#32 + iota .tc S8x1024 32 [0] iota_S8x1024_d0_w32 (ix2 a p) = _
    rw [hi, ht, BitVec.ofNat_add, BitVec.ofNat_mul]
  have h4 := Won.round (m := 4) rfl (by omega) p h8 slices_S8x1024_o0_0_S4x1024 slices_S8x1024_o4_0_S4x1024
  have h2 := Won.round (m := 2) rfl (by omega) p h4 slices_S4x1024_o0_0_S2x1024 slices_S4x1024_o2_0_S2x1024
  obtain ⟨n, hn, -, hr, hbest⟩ := Won.round (m := 1) rfl (by omega) p h2 slices_S2x1024_o0_0_S1x1024 slices_S2x1024_o1_0_S1x1024 0
  refine ⟨n, hn, ?_, hbest.congr fun k => ?_⟩
  · unfold rowOut
    refine (shapeCast_apply _ _ (ix3 (0 : Fin 1) (0 : Fin 1) p) (ix1 p) ?_).trans ((shapeCast_1a_a_apply _ _ p).trans hr)
    rw [Shape.rowMajor_val_three, Shape.rowMajor_val_one]
    show p.val = (0 * 1 + 0) * 1024 + p.val
    omega
  · show (k % 1 = 0 ∧ k < 8192) ↔ k < 8192
    omega

/-- The row number stored for a pixel whose distances are `e` is their first minimum. -/
theorem outV_best (x : Vec Ideal S1x64x1024 .f32) (w : Vec Ideal S64x64 .f32) (β : Vec Ideal S64x1 .f32) (cb : ℕ → Vec Ideal S1024x64 .f32) (p : Fin 1024)
    (e : ℕ → EReal) (he : ∀ n, e n < ⊤)
    (hd : ∀ n < 8, ∀ t < 128, ∀ a : Fin 8, dist (n2V (fnV (qV x w β))) (sV (m2V (fnV (qV x w β))) (cb n)) (cV (cb n)) (8 * t) (ix2 a p)
      = e ((128 * n + t) * 8 + a.val)) :
    ∃ n < 8192, outV x w β cb (ix3 0 0 p) = BitVec.ofNat 32 n ∧ Best e (fun n => n < 8192) n := by
  have hc := fun a : Fin 8 => chunk_scan (fnV (qV x w β)) cb (fun T => e (T * 8 + a.val)) (ix2 a p) (fun n hn t ht => hd n hn t ht a) 8 le_rfl
  have hr := fun a : Fin 8 => scan_row e he a.isLt 1023
  exact rowOut_best _ _ p (fun a => (scan (fun T => e (T * 8 + a.val)) 1024).2) (fun a => scan_lt _ 1023) (fun a => (hc a).1.trans (hr a).1)
    (fun a => (hc a).2) (fun a => (hr a).2)

end Cert.Proof.Arg

end

end
-- ==== Proof.ArgKernel.lean ====
module

public import proofs.«01_k».proof.Proof.ArgScan
public import proofs.«01_k».proof.Proof.TcRegion

/-!
# The kernel's row numbers are the first minima of its distances

Each array of the TensorCore kernel's body read at one entry: the convolved pixel, the normalised pixel, and the
distance to one row of the codebook. With the tournament's lemma this says which row number the kernel stores.
-/

@[expose] public section

open scoped BigOperators

noncomputable section

namespace Cert.Proof.Arg

open Cert.KernelIdeal Cert.KernelIdeal.Gen
open Idealize.ShloMosaic Cert.Proof.Tc
open Idealize.ShloMosaic.ValueIdx

/-- A contraction over one axis is the sum over that axis's coordinate. -/
theorem contract_sum {sl sr so : Shape} (D : DotDims sl sr so) (n : ℕ) (hr : D.contr.rank = 1) (hs : D.contr.size ⟨0, by omega⟩ = n)
    (l : sl.Idx → EReal) (r : sr.Idx → EReal) (j : so.Idx) (L : Fin n → sl.Idx) (R : Fin n → sr.Idx)
    (hl : ∀ k, D.lhsIdx j k = L (contrEquiv1 D n hr hs k)) (hr' : ∀ k, D.rhsIdx j k = R (contrEquiv1 D n hr hs k)) :
    ∑ k : D.contr.Idx, l (D.lhsIdx j k) * r (D.rhsIdx j k) = ∑ k : Fin n, l (L k) * r (R k) :=
  Fintype.sum_equiv (contrEquiv1 D n hr hs) _ _ fun k => by rw [hl, hr']

/-- A column spread over many columns reads the column. -/
theorem broadcastTo_col {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- A cast to the same shape changes nothing. -/
theorem shapeCast_same {α : Type} {s : Shape} (x : s.Idx → α) (h : s.ShapeCasts s) (i : s.Idx) : shapeCast s x h i = x i :=
  shapeCast_apply x h i i rfl

/-- A convolved pixel's coordinate. -/
theorem qV_apply (x : Vec Ideal S1x64x1024 .f32) (w : Vec Ideal S64x64 .f32) (β : Vec Ideal S64x1 .f32) (c : Fin 64) (p : Fin 1024) :
    qV x w β (ix2 c p) = (∑ k : Fin 64, w (ix2 c k) * x (ix3 (0 : Fin 1) k p)) + β (ix2 c (0 : Fin 1)) := by
  unfold qV
  rw [addf_apply]
  congr 1
  · refine (Ideal.matmul_constant_zero_apply _ _ _ _ _).trans ?_
    rw [contract_sum dot_S64x64_S64x1024_S64x1024_1_0_0_1_n_n 64 rfl rfl _ _ _ (fun k => ix2 c k) (fun k => ix2 k p)
      (fun k => by funext a; match a with | ⟨0, _⟩ => rfl | ⟨1, _⟩ => rfl)
      (fun k => by funext a; match a with | ⟨0, _⟩ => rfl | ⟨1, _⟩ => rfl)]
    exact Finset.sum_congr rfl fun k _ => by rw [shapeCast_1ab_ab_apply]
  · rw [broadcastTo_col (by decide), shapeCast_same]

/-- The sum of a matrix's rows at a column. -/
theorem colSum_apply (v : FVec Ideal S64x1024 .f32) (p : Fin 1024) :
    shapeCast S1x1024 (multiReduction .add [0] S1024 v 0x00000000#32 reduces_S64x1024_S1024 (.inl rfl) rfl) shapeCasts_S1024_S1x1024
      (ix2 (0 : Fin 1) p) = ∑ k : Fin 64, v (ix2 k p) := by
  rw [shapeCast_a_1a_apply]
  refine (Ideal.multiReduction_add_single _ _ _ _ _ _).trans ?_
  refine Finset.sum_congr rfl fun k _ => congrArg v ?_
  funext a; match a with | ⟨0, _⟩ => rfl | ⟨1, _⟩ => rfl

/-- A normalised pixel's coordinate. -/
theorem fnV_apply (q : FVec Ideal S64x1024 .f32) (c : Fin 64) (p : Fin 1024) :
    fnV q (ix2 c p) = fE (fun k => q (ix2 k p)) c := by
  unfold fnV fE
  rw [divf_apply, broadcastTo_1b_ab_apply, maximumf_apply]
  congr 1
  show max (Ideal.sqrt _) _ = max (Ideal.sqrt _) _
  rw [colSum_apply]
  rfl

/-- A row's squared length. -/
theorem cV_apply (cb : Vec Ideal S1024x64 .f32) (r : Fin 1024) : cV cb (ix2 r (0 : Fin 1)) = ∑ k : Fin 64, cb (ix2 r k) * cb (ix2 r k) := by
  unfold cV
  rw [shapeCast_a_a1_apply]
  refine (Ideal.multiReduction_add_single _ _ _ _ _ _).trans ?_
  refine Finset.sum_congr rfl fun k _ => ?_
  refine (mulf_apply _ _ _).trans ?_
  have : (reduces_S1024x64_S1024).lift (ix1 r) k = ix2 r k := by
    funext a; match a with | ⟨0, _⟩ => rfl | ⟨1, _⟩ => rfl
  rw [this]
  rfl

/-- A row's product with a scaled pixel. -/
theorem sV_apply (f : FVec Ideal S64x1024 .f32) (cb : Vec Ideal S1024x64 .f32) (r : Fin 1024) (p : Fin 1024) :
    sV (m2V f) cb (ix2 r p) = ∑ k : Fin 64, cb (ix2 r k) * (f (ix2 k p) * Ideal.ofBits .f32 0xC0000000#32) := by
  unfold sV
  refine (Ideal.matmul_constant_zero_apply _ _ _ _ _).trans ?_
  rw [contract_sum dot_S1024x64_S64x1024_S1024x1024_1_0_0_1_n_n 64 rfl rfl _ _ _ (fun k => ix2 r k) (fun k => ix2 k p)
    (fun k => by funext a; match a with | ⟨0, _⟩ => rfl | ⟨1, _⟩ => rfl)
    (fun k => by funext a; match a with | ⟨0, _⟩ => rfl | ⟨1, _⟩ => rfl)]
  exact Finset.sum_congr rfl fun k _ => rfl

/-- A row's place in a chunk: row `a` of the eight rows of step `t`. -/
def rowAt (t : ℕ) (ht : t < 128) (a : Fin 8) : Fin 1024 := ⟨8 * t + a.val, by omega⟩

/-- The eight distances of one step, at one entry. -/
theorem dist_apply (n2 : FVec Ideal S1x1024 .f32) (S : FVec Ideal S1024x1024 .f32) (C : FVec Ideal S1024x1 .f32) (t : ℕ) (ht : t < 128)
    (a : Fin 8) (p : Fin 1024) :
    Tc.dist n2 S C (8 * t) (ix2 a p) = (n2 (ix2 (0 : Fin 1) p) + C (ix2 (rowAt t ht a) (0 : Fin 1))) + S (ix2 (rowAt t ht a) p) := by
  have h : S1024x1024.Slices ![8 * t, 0] S8x1024 ∧ S1024x1.Slices ![8 * t, 0] S8x1 := by
    refine ⟨⟨rfl, fun b => ?_⟩, ⟨rfl, fun b => ?_⟩⟩
    · match b with
      | ⟨0, _⟩ => show 8 * t + 8 ≤ 1024; omega
      | ⟨1, _⟩ => show 0 + 1024 ≤ 1024; omega
    · match b with
      | ⟨0, _⟩ => show 8 * t + 8 ≤ 1024; omega
      | ⟨1, _⟩ => show 0 + 1 ≤ 1; omega
  unfold Tc.dist
  rw [dif_pos h, addf_apply, addf_apply, broadcastTo_1b_ab_apply, broadcastTo_col (by decide)]
  congr 1
  · congr 1
    show C _ = C _
    congr 1
    funext b
    match b with
    | ⟨0, _⟩ => rfl
    | ⟨1, _⟩ => rfl
  · show S _ = S _
    congr 1
    funext b
    match b with
    | ⟨0, _⟩ => rfl
    | ⟨1, _⟩ => exact Fin.ext (Nat.zero_add _)

/-- One entry of a step's distances is the pixel's distance to the row, as the kernel adds it up. -/
theorem dist_eK (f : FVec Ideal S64x1024 .f32) (cb : Vec Ideal S1024x64 .f32) (t : ℕ) (ht : t < 128) (a : Fin 8) (p : Fin 1024) :
    Tc.dist (n2V f) (sV (m2V f) cb) (cV cb) (8 * t) (ix2 a p) = eK (fun c => f (ix2 c p)) (fun c => cb (ix2 (rowAt t ht a) c)) := by
  rw [dist_apply _ _ _ t ht, cV_apply, sV_apply]
  unfold n2V eK
  rw [colSum_apply]
  rfl

/-- The convolved pixel `p` of image `n`. -/
def qE (X : Vec Ideal S8x64x1024 .f32) (w : Vec Ideal S64x64 .f32) (β : Vec Ideal S64x1 .f32) (n : Fin 8) (p : Fin 1024) (c : Fin 64) : EReal :=
  (∑ k : Fin 64, w (ix2 c k) * X (ix3 n k p)) + β (ix2 c (0 : Fin 1))

/-- Row `r` of the codebook, the number taken below 8192. -/
def cbRow (cb : Vec Ideal S8192x64 .f32) (r : ℕ) (c : Fin 64) : EReal := cb (ix2 (⟨r % 8192, Nat.mod_lt _ (by decide)⟩ : Fin 8192) c)

/-- The kernel's row number for pixel `p` of image `n` is the first minimum of the pixel's distances to the rows, if all
are below the top. -/
theorem idxV_best (X : Vec Ideal S8x64x1024 .f32) (w : Vec Ideal S64x64 .f32) (β : Vec Ideal S64x1 .f32) (cb : Vec Ideal S8192x64 .f32)
    (n : Fin 8) (p : Fin 1024) (he : ∀ r, eK (fE (qE X w β n p)) (cbRow cb r) < ⊤) :
    ∃ r < 8192, idxV X w β cb (ix3 n (0 : Fin 1) p) = BitVec.ofNat 32 r ∧ Best (fun r => eK (fE (qE X w β n p)) (cbRow cb r)) (fun r => r < 8192) r := by
  refine outV_best (imgAt X n.val) w β (chunks cb) p _ he fun m hm t ht a => ?_
  rw [dist_eK _ _ t ht]
  have hf : (fun c => fnV (qV (imgAt X n.val) w β) (ix2 c p)) = fE (qE X w β n p) := by
    funext c
    rw [fnV_apply]
    congr 1
    funext k
    rw [qV_apply]
    unfold qE
    congr 1
    refine Finset.sum_congr rfl fun l _ => congrArg (w (ix2 k l) * ·) ?_
    unfold imgAt
    congr 1
    funext b
    match b with
    | ⟨0, _⟩ => exact Fin.ext (Nat.mod_eq_of_lt n.isLt)
    | ⟨1, _⟩ => rfl
    | ⟨2, _⟩ => rfl
  rw [hf]
  congr 1
  funext c
  unfold chunks cbRow
  congr 1
  funext b
  match b with
  | ⟨0, _⟩ =>
    refine Fin.ext ?_
    show (1024 * m + (8 * t + a.val)) % 8192 = ((128 * m + t) * 8 + a.val) % 8192
    congr 1; omega
  | ⟨1, _⟩ => rfl

end Cert.Proof.Arg

end

end
-- ==== Proof.KernelOut.lean ====
module

public import proofs.«01_k».proof.Proof.ArgKernel
public import proofs.«01_k».proof.Proof.Frames
public import Idealize.ShloMosaic.Lib.KernelVsHost
public import Idealize.ShloMosaic.Lib.ValueLayout
public import Idealize.ShloMosaic.Lib.ValueLayoutCasts

/-!
# What the kernel returns, entry by entry

The arrays the two calls are entered with, as functions of the arguments, and the result read at one entry: the entry of
the codebook row that the row number of the entry's pixel names.
-/

@[expose] public section

noncomputable section

namespace Cert.Proof.Arg

open Cert.KernelIdeal Cert.KernelIdeal.Gen
open Idealize.ShloMosaic Cert.Proof.Run
open Idealize.ShloMosaic.ValueIdx
open Cert.Proof.Sc (gath ixAt rowOfWord)

variable (m : (ℓ : Loc nD τ sig) → Buf (Elt Ideal) ℓ) (d : Dev nD)

/-- The four arguments on a device. -/
abbrev argX : Vec Ideal S8x64x32x32 .f32 := m ((SparseCore.T d).loc main_arg0)
abbrev argW : Vec Ideal S64x64 .f32 := m ((SparseCore.T d).loc main_arg1)
abbrev argB : Vec Ideal S64 .f32 := m ((SparseCore.T d).loc main_arg2)
abbrev argC : Vec Ideal S8192x64 .f32 := m ((SparseCore.T d).loc main_arg3)

/-- The TensorCore call is entered with the images reshaped. -/
theorem VA_images : VA m d main_v0 = shapeCast S8x64x1024 (argX m d) shapeCasts_S8x64x32x32_S8x64x1024 := by
  unfold VA W1
  after_results_simp
  rfl

/-- It is entered with the bias as a column. -/
theorem VA_bias : VA m d main_v1 = shapeCast S64x1 (argB m d) shapeCasts_S64_S64x1 := by
  unfold VA W1
  after_results_simp
  rfl

/-- It is entered with the weights as they are. -/
theorem VA_weights : VA m d main_arg1 = argW m d := by
  unfold VA W1
  after_results_simp
  rfl

/-- It is entered with the codebook as it is. -/
theorem VA_codebook : VA m d main_arg3 = argC m d := by
  unfold VA W1
  after_results_simp
  rfl

/-- The row numbers of the TensorCore call, from the arguments. -/
def rowsK : Vec Ideal S8x1x1024 .i32 :=
  Tc.idxV (shapeCast S8x64x1024 (argX m d) shapeCasts_S8x64x32x32_S8x64x1024) (argW m d) (shapeCast S64x1 (argB m d) shapeCasts_S64_S64x1) (argC m d)

/-- They are what the call leaves. -/
theorem idxOf_eq : Tc.idxOf (VA m) d = rowsK m d := by
  unfold Tc.idxOf rowsK
  rw [VA_images, VA_bias, VA_weights, VA_codebook]

/-- The SparseCore call is entered with the codebook padded to 128 lanes. -/
theorem tb_eq : tb m d = pad S8192x128 ![0, 0] ![0, 64] ![0, 0] (argC m d) (sitofp (F := Ideal) .f32 (constantI S_ 32 0#32)) pads_S8192x64_S8192x128_000_0640 h_S_ := by
  have h : W2 m d (r' main_arg3) = argC m d := (VB_ne m d main_arg3 (by decide)).trans (VA_codebook m d)
  unfold tb W3
  after_results_simp
  rw [h]

/-- The padded codebook's first 64 lanes are the codebook. -/
theorem tb_apply (r : Fin 8192) (c : Fin 64) (c' : Fin 128) (hc : c'.val = c.val) : tb m d (ix2 r c') = argC m d (ix2 r c) := by
  rw [tb_eq]
  refine pad_apply_of_inside _ _ _ _ _ _ _ _ (ix2 r c) fun a => ?_
  match a with
  | ⟨0, _⟩ => show r.val = 0 + r.val * (0 + 1); omega
  | ⟨1, _⟩ => show c'.val = 0 + c.val * (0 + 1); omega

/-- The index word at place `P` is the row number of pixel `p` of image `n`, where `P` counts the pixels image by image. -/
theorem ixAt_eq (n : Fin 8) (p : Fin 1024) (P : Fin 8192) (hP : P.val = n.val * 1024 + p.val) : ixAt (ix m) d P = rowsK m d (ix3 n (0 : Fin 1) p) := by
  have e : ixAt (ix m) d P = ix m d (ix2 (⟨P.val / 128, by have := P.isLt; omega⟩ : Fin 64) (⟨P.val % 128, Nat.mod_lt _ (by decide)⟩ : Fin 128)) := by
    unfold ixAt
    congr 1
    funext a
    match a with
    | ⟨0, _⟩ => rfl
    | ⟨1, _⟩ => rfl
  rw [e, ix_eq, idxOf_eq]
  show shapeCast S64x128 (shapeCast S8192 (rowsK m d) shapeCasts_S8x1x1024_S8192) shapeCasts_S8192_S64x128 _ = _
  rw [shapeCast_apply _ _ _ (ix1 P) (by
    rw [Shape.rowMajor_val_one, Shape.rowMajor_val_two]
    show P.val = P.val / 128 * 128 + P.val % 128
    omega)]
  refine shapeCast_apply _ _ _ _ ?_
  rw [Shape.rowMajor_val_one, Shape.rowMajor_val_three]
  show (n.val * 1 + 0) * 1024 + p.val = P.val
  omega

/-- A gathered row is the padded codebook's row of the index word at its place. -/
theorem gath_apply (P : Fin 8192) (c : Fin 128) : gath (tb m) (ix m) d (ix2 P c) = tb m d (ix2 (rowOfWord (ixAt (ix m) d P)) c) := by
  unfold gath
  congr 1
  funext a
  match a with
  | ⟨0, _⟩ => rfl
  | ⟨1, _⟩ => rfl

/-- The result is the gathered rows reshaped, cut to 64 lanes and transposed. -/
theorem out_eq : W5 m d (r' main_v9) = transpose S8x64x32x32 [0, 3, 1, 2]
    (extractStridedSlice S8x32x32x64 ![0, 0, 0, 0] (shapeCast S8x32x32x128 (gath (tb m) (ix m) d) shapeCasts_S8192x128_S8x32x32x128)
      slices_S8x32x32x128_S8x32x32x64_0_0_0_0) transposes_S8x32x32x64_S8x64x32x32_0_3_1_2 := by
  have h : W4 m d (r' main_v6) = gath (tb m) (ix m) d := by unfold W4; exact Function.update_self _ _ _
  unfold W5
  after_results_simp
  rw [h]
  rfl

/-- The result at channel `c` of pixel `(h, v)` of image `n` is entry `c` of the codebook row that the pixel's row number names. -/
theorem out_apply (n : Fin 8) (c : Fin 64) (h v : Fin 32) (p : Fin 1024) (hp : p.val = h.val * 32 + v.val) {r : ℕ} (hr : r < 8192)
    (hi : rowsK m d (ix3 n (0 : Fin 1) p) = BitVec.ofNat 32 r) :
    (W5 m d (r' main_v9) : Vec Ideal S8x64x32x32 .f32) (ix4 n c h v) = argC m d (ix2 (⟨r, hr⟩ : Fin 8192) c) := by
  have hP : n.val * 1024 + p.val < 8192 := by have := n.isLt; have := p.isLt; omega
  have hw : rowOfWord (BitVec.ofNat 32 r) = ⟨r, hr⟩ := by
    have e : (BitVec.ofNat 32 r).toNat = r := by rw [BitVec.toNat_ofNat]; omega
    unfold rowOfWord
    rw [dif_pos (by rw [e]; exact hr)]
    exact Fin.ext e
  rw [out_eq]
  rw [transpose_apply _ _ _ _ (ix4 n h v c) (fun a => match a with | ⟨0, _⟩ => rfl | ⟨1, _⟩ => rfl | ⟨2, _⟩ => rfl | ⟨3, _⟩ => rfl)]
  rw [extractStridedSlice_apply _ _ _ _ (ix4 n h v (⟨c.val, by have := c.isLt; omega⟩ : Fin 128)) (fun a => match a with
    | ⟨0, _⟩ => (Nat.zero_add _).symm | ⟨1, _⟩ => (Nat.zero_add _).symm | ⟨2, _⟩ => (Nat.zero_add _).symm | ⟨3, _⟩ => (Nat.zero_add _).symm)]
  rw [shapeCast_apply _ _ _ (ix2 (⟨n.val * 1024 + p.val, hP⟩ : Fin 8192) (⟨c.val, by have := c.isLt; omega⟩ : Fin 128)) (by
    rw [Shape.rowMajor_val_four, Shape.rowMajor_val_two]
    show (n.val * 1024 + p.val) * 128 + c.val = ((n.val * 32 + h.val) * 32 + v.val) * 128 + c.val
    rw [hp]; ring)]
  rw [gath_apply, ixAt_eq m d n p _ rfl, hi, hw]
  exact tb_apply m d _ _ _ rfl

end Cert.Proof.Arg

end

end
-- ==== Proof.Algebraic.lean ====
module

public import proofs.«01_k».proof.Defs
public import proofs.«01_k».proof.Proof.ArgRef
public import proofs.«01_k».proof.Proof.KernelOut
public import Idealize.ShloMosaic.Lib.ReduceAll

/-!
# The kernel returns what the reference returns

For a codebook of finite entries the kernel's distances and the reference's are the same reals, so both take the same
row for every pixel, the first of the least distance, and return its entries.
-/

@[expose] public section

open scoped BigOperators

noncomputable section

namespace Cert.Pre_codebook_finite

open Idealize.ShloMosaic

/-- The shape relations of the precondition. -/
instance sides : Facts where
  bcast_S_S8192x64 := by decide
  reducesTo_S8192x64_S_d0_1 := by decide
  h_S_ := by decide

end Cert.Pre_codebook_finite

namespace Cert.Proof.Arg

open Idealize.ShloMosaic Idealize.SL.Sem Idealize.ShloMosaic.ValueIdx

/-! ## The precondition -/

/-- An extended real whose absolute value is below the top is a real. -/
theorem real_of_abs (x : EReal) (h : max x (-x) < ⊤) : ∃ k : ℝ, x = (k : EReal) := by
  induction x using EReal.rec with
  | bot => simp at h
  | coe r => exact ⟨r, rfl⟩
  | top => simp at h

instance : Subsingleton Cert.Pre_codebook_finite.S_.Idx := ⟨fun a b => funext fun x => x.elim0⟩

/-- Under the precondition every entry of the codebook is a real. -/
theorem codebook_real (x : FVec Ideal Cert.Pre_codebook_finite.S8x64x32x32 .f32) (w : FVec Ideal Cert.Pre_codebook_finite.S64x64 .f32)
    (b : FVec Ideal Cert.Pre_codebook_finite.S64 .f32) (cb : FVec Ideal Cert.Pre_codebook_finite.S8192x64 .f32)
    (h : Cert.Pre_codebook_finite.fn (F := Ideal) x w b cb = fun _ => 1#1) (i) : ∃ k : ℝ, (cb i : EReal) = (k : EReal) := by
  have e := congrFun h (fun a => a.elim0)
  unfold Cert.Pre_codebook_finite.fn at e
  have hi := Host.reduce_andi_all _ _ _ _ _ e i
  have hc : Ideal.cmp .olt (max (cb i) (-(cb i))) (Ideal.ofBits .f32 0x7F800000#32) = 1#1 := hi
  rw [bits_top] at hc
  refine real_of_abs _ ?_
  by_contra hn
  simp [Ideal.cmp, hn] at hc

/-! ## One pixel -/

section Pixel

variable (x : Vec Ideal Cert.KernelIdeal.S8x64x32x32 .f32) (w : Vec Ideal Cert.KernelIdeal.S64x64 .f32) (b : Vec Ideal Cert.KernelIdeal.S64 .f32)
  (cb : Vec Ideal Cert.KernelIdeal.S8192x64 .f32)

/-- The images as the kernel takes them. -/
abbrev imgs : Vec Ideal Cert.KernelIdeal.S8x64x1024 .f32 := shapeCast _ x Cert.KernelIdeal.Gen.shapeCasts_S8x64x32x32_S8x64x1024
/-- The bias as the kernel takes it. -/
abbrev bias : Vec Ideal Cert.KernelIdeal.S64x1 .f32 := shapeCast _ b Cert.KernelIdeal.Gen.shapeCasts_S64_S64x1

/-- The kernel's convolved pixel is the reference's. -/
theorem pixel_eq (n : Fin 8) (h v : Fin 32) (p : Fin 1024) (hp : p.val = h.val * 32 + v.val) (P : Fin 8192)
    (hP : P.val = (n.val * 32 + h.val) * 32 + v.val) : qE (imgs x) w (bias b) n p = fun c => Ref.pix x w b (ix2 P c) := by
  funext c
  rw [pix_apply x w b n h v P hP c]
  unfold qE imgs bias
  have hb : shapeCast Cert.KernelIdeal.S64x1 b Cert.KernelIdeal.Gen.shapeCasts_S64_S64x1 (ix2 c (0 : Fin 1)) = b (ix1 c) := by
    refine shapeCast_apply _ _ _ _ ?_
    rw [Shape.rowMajor_val_one, Shape.rowMajor_val_two]
    show c.val = c.val * 1 + 0
    omega
  rw [hb]
  refine congrArg (· + b (ix1 c)) (Finset.sum_congr rfl fun k _ => ?_)
  rw [mul_comm]
  refine congrArg (· * w (ix2 c k)) (shapeCast_apply _ _ _ _ ?_)
  rw [Shape.rowMajor_val_three, Shape.rowMajor_val_four]
  show ((n.val * 64 + k.val) * 32 + h.val) * 32 + v.val = (n.val * 64 + k.val) * 1024 + p.val
  rw [hp]; ring

/-- For a codebook of reals, the kernel and the reference give a pixel the same row number. -/
theorem same_row (hcb : ∀ i, ∃ k : ℝ, (cb i : EReal) = (k : EReal)) (n : Fin 8) (h v : Fin 32) (p : Fin 1024)
    (hp : p.val = h.val * 32 + v.val) (P : Fin 8192) (hP : P.val = (n.val * 32 + h.val) * 32 + v.val) :
    ∃ r < 8192, Tc.idxV (imgs x) w (bias b) cb (ix3 n (0 : Fin 1) p) = BitVec.ofNat 32 r ∧ Ref.rows x w b cb (ix1 P) = BitVec.ofNat 32 r := by
  obtain ⟨f, hf⟩ := fE_real (qE (imgs x) w (bias b) n p)
  choose k hk using hcb
  have hrow : ∀ r, cbRow cb r = fun c => ((k (ix2 (⟨r % 8192, Nat.mod_lt _ (by decide)⟩ : Fin 8192) c) : ℝ) : EReal) := fun r => funext fun c => hk _
  have heq : ∀ r, eK (fE (qE (imgs x) w (bias b) n p)) (cbRow cb r) = eR (fE (qE (imgs x) w (bias b) n p)) (cbRow cb r) := fun r => by
    rw [hf, hrow]; exact eK_eq_eR _ _
  have hlt : ∀ r, eR (fE (qE (imgs x) w (bias b) n p)) (cbRow cb r) < ⊤ := fun r => by
    rw [hf, hrow]; exact eR_lt_top _ _
  obtain ⟨r, hr, hi, hB⟩ := idxV_best (imgs x) w (bias b) cb n p (fun r => (heq r).trans_lt (hlt r))
  obtain ⟨r', hr', hi', hB'⟩ := amin_best (Ref.dst (Ref.nrm (Ref.pix x w b)) cb) P
    (fun r => eR (fE (qE (imgs x) w (bias b) n p)) (cbRow cb r)) hlt fun r => by
      rw [dst_apply]
      refine congrArg₂ eR (funext fun c => ?_) (funext fun c => ?_)
      · rw [nrm_apply, pixel_eq x w b n h v p hp P hP]
      · unfold cbRow
        exact congrArg (fun q : Fin 8192 => cb (ix2 q c)) (Fin.ext (Nat.mod_eq_of_lt r.isLt).symm)
  rw [funext heq] at hB
  obtain rfl := hB.unique hB'
  exact ⟨r, hr, hi, hi'⟩

end Pixel

/-! ## The results -/

/-- For a codebook of reals, the kernel's result is the reference's of the same arguments. -/
theorem result_eq (m : (ℓ : Loc Cert.KernelIdeal.nD Cert.KernelIdeal.τ Cert.KernelIdeal.sig) → Buf (Elt Ideal) ℓ) (d : Dev Cert.KernelIdeal.nD)
    (hcb : ∀ i, ∃ k : ℝ, (argC m d i : EReal) = (k : EReal)) :
    Ref.lay (Ref.tak (argC m d) (Ref.rows (argX m d) (argW m d) (argB m d) (argC m d))) = Run.W5 m d (Run.r' Cert.KernelIdeal.main_v9) := by
  funext j
  obtain ⟨n, c, h, v, rfl⟩ : ∃ (n : Fin 8) (c : Fin 64) (h v : Fin 32), j = ix4 n c h v :=
    ⟨j 0, j 1, j 2, j 3, funext fun a => match a with | ⟨0, _⟩ => rfl | ⟨1, _⟩ => rfl | ⟨2, _⟩ => rfl | ⟨3, _⟩ => rfl⟩
  have hp : h.val * 32 + v.val < 1024 := by have := h.isLt; have := v.isLt; omega
  have hP : (n.val * 32 + h.val) * 32 + v.val < 8192 := by have := n.isLt; have := h.isLt; have := v.isLt; omega
  obtain ⟨r, hr, hi, hi'⟩ := same_row (argX m d) (argW m d) (argB m d) (argC m d) hcb n h v ⟨_, hp⟩ rfl ⟨_, hP⟩ rfl
  rw [lay_apply _ n c h v ⟨_, hP⟩ rfl, tak_apply _ _ _ c hr hi']
  exact (out_apply m d n c h v ⟨_, hp⟩ rfl hr hi).symm

/-- The value claim: from the same arguments, the codebook finite, the kernel and the reference return the same. -/
theorem algebraic : Cert.algebraic_KernelIdeal_ReferenceIdeal_pre_codebook_finite := by
  intro m g m' g' hpre hargs
  refine ⟨fun c => Run.W5 m c (Run.r' Cert.KernelIdeal.main_v9), ?_, ?_⟩
  · exact (θ_run Cert.KernelIdeal.defs _ _).mono (fun _ h => h.1) (Run.run_main (F := Ideal) m g)
  · refine (θ_run Cert.ReferenceIdeal.defs _ _).mono (fun r h c => ⟨(h c).1.trans ?_, (h c).2⟩) (Ref.run m' g')
    obtain ⟨h0, h1, h2, h3⟩ := hargs c
    rw [h0, h1, h2, h3]
    exact result_eq m c (codebook_real _ _ _ _ (hpre c))

end Cert.Proof.Arg

end

end
-- ==== Proof.lean ====
/-
  The certificate: the frames of the kernel's two readings (Proof/Frames.lean) and of the reference (Proof/RefRun.lean), and the
  value claim (Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims: the frames (a frame that holds of every memory holds under the precondition too), that the idealization
changes nothing, and that the kernel returns what the reference returns. -/
theorem claim : Cert.Claim := ⟨Cert.Kernel.Gen.facts, Cert.KernelIdeal.Gen.facts, Cert.ReferenceIdeal.Gen.facts, Cert.Pre_codebook_finite.sides,
  Run.frame_kernel, Run.frame_kernelIdeal, fun m g _ => Run.frame_kernelIdeal m g trivial, Ref.frame_ref, fun m g _ => Ref.frame_ref m g trivial,
  trivial, Arg.algebraic⟩

end Cert.Proof

end
